-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_network [hPre_finite_network : Cert.Pre_finite_network.Facts] (m : (ℓ : Loc Cert.KernelIdeal.nD Cert.KernelIdeal.τ Cert.KernelIdeal.sig) → Buf (Elt Ideal) ℓ) : Prop :=
  ∀ c : Dev Cert.KernelIdeal.nD,
    (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_network [hPre_finite_network : Cert.Pre_finite_network.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_network [hKernelIdeal : Cert.KernelIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_network m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_network [hReferenceIdeal : Cert.ReferenceIdeal.Facts] [hPre_finite_network : Cert.Pre_finite_network.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_network m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "free_width" .f32 0x40BCED91#32 ((738 / 125 : ℝ) : EReal)
  ∧ IdealRules.named_const.Statement Cert.KernelIdeal.κ "min_width" .f32 0x3BC49BA6#32 ((3 / 500 : ℝ) : EReal)
  ∧ IdealRules.named_const.Statement Cert.KernelIdeal.κ "min_slope" .f32 0x3A83126F#32 ((1 / 1000 : ℝ) : EReal)

def algebraic_KernelIdeal_ReferenceIdeal_pre_finite_network [hKernelIdeal : Cert.KernelIdeal.Facts] [hReferenceIdeal : Cert.ReferenceIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_network m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_network : Cert.Pre_finite_network.Facts),
    quiescent_Kernel (hKernel := hKernel)
    ∧ quiescent_KernelIdeal (hKernelIdeal := hKernelIdeal)
    ∧ quiescent_KernelIdeal_pre_finite_network (hKernelIdeal := hKernelIdeal) (hPre_finite_network := hPre_finite_network)
    ∧ quiescent_ReferenceIdeal (hReferenceIdeal := hReferenceIdeal)
    ∧ quiescent_ReferenceIdeal_pre_finite_network (hReferenceIdeal := hReferenceIdeal) (hPre_finite_network := hPre_finite_network)
    ∧ preserves_Kernel_KernelIdeal
    ∧ algebraic_KernelIdeal_ReferenceIdeal_pre_finite_network (hKernelIdeal := hKernelIdeal) (hReferenceIdeal := hReferenceIdeal) (hPre_finite_network := hPre_finite_network)
-- ==== Pre_finite_network.lean ====
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S1024x12032 : Shape := ⟨2, ![1024, 12032]⟩
abbrev S12032 : Shape := ⟨1, ![12032]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x12032 : S_.BroadcastsInDim S1024x12032 (![] : Fin 0 → Fin S1024x12032.rank)
  reducesTo_S1024x12032_S_d0_1 : S1024x12032.ReducesTo [0, 1] S_
  bcast_S_S12032 : S_.BroadcastsInDim S12032 (![] : Fin 0 → Fin S12032.rank)
  reducesTo_S12032_S_d0 : S12032.ReducesTo [0] S_

variable [Facts]

def fn_part1 {F : FTy → Type} [FloatOps F] (main_arg5 : FVec F S1024 .f32) (main_arg6 : FVec F S1024x12032 .f32) (main_arg7 : FVec F S12032 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x12032 .f32 := Host.absf main_arg6
  let main_cst_8 : FVec F S_ .f32 := constant S_ .f32 0x7F800000#32
  let main_v25 : FVec F S1024x12032 .f32 := broadcastInDim S1024x12032 ![] bcast_S_S1024x12032 main_cst_8
  let main_v26 : IVec S1024x12032 1 := cmpf .olt main_v24 main_v25
  let main_c_9 : IVec S_ 1 := constantI S_ 1 1#1
  let main_v27 : IVec S_ 1 := (fun x v => Host.reduce IntOp.andi x v reducesTo_S1024x12032_S_d0_1 h_S_) main_v26 main_c_9
  let main_v28 : IVec S_ 1 := andi main_v23 main_v27
  let main_v29 : FVec F S12032 .f32 := Host.absf main_arg7
  let main_cst_10 : FVec F S_ .f32 := constant S_ .f32 0x7F800000#32
  let main_v30 : FVec F S12032 .f32 := broadcastInDim S12032 ![] bcast_S_S12032 main_cst_10
  let main_v31 : IVec S12032 1 := cmpf .olt main_v29 main_v30
  let main_c_11 : IVec S_ 1 := constantI S_ 1 1#1
  let main_v32 : IVec S_ 1 := (fun x v => Host.reduce IntOp.andi x v reducesTo_S12032_S_d0 h_S_) main_v31 main_c_11
  let main_v33 : IVec S_ 1 := andi main_v28 main_v32
  main_v33

def fn {F : FTy → Type} [FloatOps F] (main_arg0 : FVec F S16384x256 .f32) (main_arg1 : FVec F S16384x256 .f32) (main_arg2 : FVec F S256x1024 .f32) (main_arg3 : FVec F S1024 .f32) (main_arg4 : FVec F S1024x1024 .f32) (main_arg5 : FVec F S1024 .f32) (main_arg6 : FVec F S1024x12032 .f32) (main_arg7 : FVec F S12032 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S1024x12032 : Shape := ⟨2, ![1024, 12032]⟩
abbrev S12032 : Shape := ⟨1, ![12032]⟩
abbrev S1024x256 : Shape := ⟨2, ![1024, 256]⟩
abbrev S1024x1 : Shape := ⟨2, ![1024, 1]⟩
abbrev S1024x16384 : Shape := ⟨2, ![1024, 16384]⟩
abbrev S256x16384 : Shape := ⟨2, ![256, 16384]⟩
abbrev S1024x4x64x47 : Shape := ⟨4, ![1024, 4, 64, 47]⟩
abbrev S4x47x64x1024 : Shape := ⟨4, ![4, 47, 64, 1024]⟩
abbrev S12032x1024 : Shape := ⟨2, ![12032, 1024]⟩
abbrev S4x64x47 : Shape := ⟨3, ![4, 64, 47]⟩
abbrev S4x47x64 : Shape := ⟨3, ![4, 47, 64]⟩
abbrev S12032x1 : Shape := ⟨2, ![12032, 1]⟩
abbrev S12032x256 : Shape := ⟨2, ![12032, 256]⟩
abbrev S4x1x16384 : Shape := ⟨3, ![4, 1, 16384]⟩
abbrev S64x512 : Shape := ⟨2, ![64, 512]⟩
abbrev S1024x512 : Shape := ⟨2, ![1024, 512]⟩
abbrev S3008x1024 : Shape := ⟨2, ![3008, 1024]⟩
abbrev S3008x256 : Shape := ⟨2, ![3008, 256]⟩
abbrev S1x1x512 : Shape := ⟨3, ![1, 1, 512]⟩
abbrev S448x1024 : Shape := ⟨2, ![448, 1024]⟩
abbrev S448x256 : Shape := ⟨2, ![448, 256]⟩
abbrev S384x1024 : Shape := ⟨2, ![384, 1024]⟩
abbrev S384x256 : Shape := ⟨2, ![384, 256]⟩
abbrev S64x256 : Shape := ⟨2, ![64, 256]⟩
abbrev S256 : Shape := ⟨1, ![256]⟩
abbrev S1x256 : Shape := ⟨2, ![1, 256]⟩
abbrev S1x1x256 : Shape := ⟨3, ![1, 1, 256]⟩
abbrev S_ : Shape := ⟨0, ![]⟩
abbrev S16384 : Shape := ⟨1, ![16384]⟩

abbrev nBuf : Space → Nat
  | .hbm => 32
  | .vmem => 26
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x12032, .f32⟩
  | .hbm, ⟨7, _⟩ => ⟨S12032, .f32⟩
  | .hbm, ⟨8, _⟩ => ⟨S1024x256, .f32⟩
  | .hbm, ⟨9, _⟩ => ⟨S1024x256, .bf16⟩
  | .hbm, ⟨10, _⟩ => ⟨S1024x1024, .f32⟩
  | .hbm, ⟨11, _⟩ => ⟨S1024x1024, .bf16⟩
  | .hbm, ⟨12, _⟩ => ⟨S1024x1, .f32⟩
  | .hbm, ⟨13, _⟩ => ⟨S1024x1024, .f32⟩
  | .hbm, ⟨14, _⟩ => ⟨S1024x1, .f32⟩
  | .hbm, ⟨15, _⟩ => ⟨S1024x1024, .f32⟩
  | .hbm, ⟨16, _⟩ => ⟨S1024x16384, .bf16⟩
  | .hbm, ⟨17, _⟩ => ⟨S256x16384, .f32⟩
  | .hbm, ⟨18, _⟩ => ⟨S1024x4x64x47, .f32⟩
  | .hbm, ⟨19, _⟩ => ⟨S4x47x64x1024, .f32⟩
  | .hbm, ⟨20, _⟩ => ⟨S12032x1024, .f32⟩
  | .hbm, ⟨21, _⟩ => ⟨S12032x1024, .bf16⟩
  | .hbm, ⟨22, _⟩ => ⟨S4x64x47, .f32⟩
  | .hbm, ⟨23, _⟩ => ⟨S4x47x64, .f32⟩
  | .hbm, ⟨24, _⟩ => ⟨S12032, .f32⟩
  | .hbm, ⟨25, _⟩ => ⟨S12032x1, .f32⟩
  | .hbm, ⟨26, _⟩ => ⟨S12032x256, .f32⟩
  | .hbm, ⟨27, _⟩ => ⟨S256x16384, .f32⟩
  | .hbm, ⟨28, _⟩ => ⟨S4x1x16384, .f32⟩
  | .hbm, ⟨29, _⟩ => ⟨S16384x256, .f32⟩
  | .hbm, ⟨30, _⟩ => ⟨S_, .f32⟩
  | .hbm, ⟨31, _⟩ => ⟨S16384, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S64x512, .f32⟩
  | .local _ .vmem, ⟨13, _⟩ => ⟨S64x512, .f32⟩
  | .local _ .vmem, ⟨14, _⟩ => ⟨S1024x512, .bf16⟩
  | .local _ .vmem, ⟨15, _⟩ => ⟨S1024x512, .bf16⟩
  | .local _ .vmem, ⟨16, _⟩ => ⟨S3008x1024, .bf16⟩
  | .local _ .vmem, ⟨17, _⟩ => ⟨S3008x1024, .bf16⟩
  | .local _ .vmem, ⟨18, _⟩ => ⟨S3008x256, .f32⟩
  | .local _ .vmem, ⟨19, _⟩ => ⟨S3008x256, .f32⟩
  | .local _ .vmem, ⟨20, _⟩ => ⟨S64x512, .f32⟩
  | .local _ .vmem, ⟨21, _⟩ => ⟨S64x512, .f32⟩
  | .local _ .vmem, ⟨22, _⟩ => ⟨S1x1x512, .f32⟩
  | .local _ .vmem, ⟨23, _⟩ => ⟨S1x1x512, .f32⟩
  | .local _ .vmem, ⟨24, _⟩ => ⟨S3008x256, .f32⟩
  | .local _ .vmem, ⟨25, _⟩ => ⟨S3008x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3008x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S3008x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "free_width" => some ((738 / 125 : ℝ) : EReal)
  | "min_slope" => some ((1 / 1000 : ℝ) : EReal)
  | "min_width" => some ((3 / 500 : ℝ) : EReal)
  | _ => none
-- ==== ReferenceIdeal.lean ====
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S1024x12032 : Shape := ⟨2, ![1024, 12032]⟩
abbrev S12032 : Shape := ⟨1, ![12032]⟩
abbrev S_ : Shape := ⟨0, ![]⟩
abbrev S16384x1024 : Shape := ⟨2, ![16384, 1024]⟩
abbrev S1x1024 : Shape := ⟨2, ![1, 1024]⟩
abbrev S16384x12032 : Shape := ⟨2, ![16384, 12032]⟩
abbrev S1x12032 : Shape := ⟨2, ![1, 12032]⟩
abbrev S16384x256x47 : Shape := ⟨3, ![16384, 256, 47]⟩
abbrev S16384x256x16 : Shape := ⟨3, ![16384, 256, 16]⟩
abbrev S16384x256x15 : Shape := ⟨3, ![16384, 256, 15]⟩
abbrev S16384x256x1 : Shape := ⟨3, ![16384, 256, 1]⟩
abbrev S16384x256x17 : Shape := ⟨3, ![16384, 256, 17]⟩
abbrev S16384x256x1x1 : Shape := ⟨4, ![16384, 256, 1, 1]⟩
abbrev S1 : Shape := ⟨1, ![1]⟩
abbrev S1x1x1x1 : Shape := ⟨4, ![1, 1, 1, 1]⟩
abbrev S16384 : Shape := ⟨1, ![16384]⟩

abbrev nBuf : Space → Nat
  | .hbm => 356
  | .vmem => 0
  | .smem => 0
  | _ => 0

abbrev hbmTy0_0 (i : Nat) : BufTy := match i % 128 with
  | 0 => ⟨S16384x256, .f32⟩
  | 1 => ⟨S16384x256, .f32⟩
  | 2 => ⟨S256x1024, .f32⟩
  | 3 => ⟨S1024, .f32⟩
  | 4 => ⟨S1024x1024, .f32⟩
  | 5 => ⟨S1024, .f32⟩
  | 6 => ⟨S1024x12032, .f32⟩
  | 7 => ⟨S12032, .f32⟩
  | 8 => ⟨S_, .f32⟩
  | 9 => ⟨S_, .f32⟩
  | 10 => ⟨S_, .f32⟩
  | 11 => ⟨S16384x1024, .f32⟩
  | 12 => ⟨S1x1024, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x12032, .f32⟩
  | 26 => ⟨S1x12032, .f32⟩
  | 27 => ⟨S16384x12032, .f32⟩
  | 28 => ⟨S16384x12032, .f32⟩
  | 29 => ⟨S16384x256x47, .f32⟩
  | 30 => ⟨S16384x256x16, .f32⟩
  | 31 => ⟨S16384x256x16, .f32⟩
  | 32 => ⟨S16384x256x15, .f32⟩
  | 33 => ⟨S_, .f32⟩
  | 34 => ⟨S_, .f32⟩
  | 35 => ⟨S_, .f32⟩
  | 36 => ⟨S_, .f32⟩
  | 37 => ⟨S_, .f32⟩
  | 38 => ⟨S16384x256, .f32⟩
  | 39 => ⟨S_, .f32⟩
  | 40 => ⟨S16384x256, .f32⟩
  | 41 => ⟨S16384x256, .f32⟩
  | 42 => ⟨S16384x256x1, .f32⟩
  | 43 => ⟨S16384x256x16, .f32⟩
  | 44 => ⟨S16384x256x16, .f32⟩
  | 45 => ⟨S16384x256x16, .f32⟩
  | 46 => ⟨S_, .f32⟩
  | 47 => ⟨S16384x256, .f32⟩
  | 48 => ⟨S16384x256x1, .f32⟩
  | 49 => ⟨S16384x256x16, .f32⟩
  | 50 => ⟨S16384x256x16, .f32⟩
  | 51 => ⟨S_, .f32⟩
  | 52 => ⟨S16384x256x16, .f32⟩
  | 53 => ⟨S16384x256x16, .f32⟩
  | 54 => ⟨S_, .f32⟩
  | 55 => ⟨S16384x256x16, .f32⟩
  | 56 => ⟨S16384x256x16, .f32⟩
  | 57 => ⟨S_, .f32⟩
  | 58 => ⟨S_, .f32⟩
  | 59 => ⟨S_, .f32⟩
  | 60 => ⟨S_, .f32⟩
  | 61 => ⟨S_, .f32⟩
  | 62 => ⟨S16384x256, .f32⟩
  | 63 => ⟨S_, .f32⟩
  | 64 => ⟨S16384x256, .f32⟩
  | 65 => ⟨S16384x256, .f32⟩
  | 66 => ⟨S16384x256x1, .f32⟩
  | 67 => ⟨S16384x256x16, .f32⟩
  | 68 => ⟨S16384x256x16, .f32⟩
  | 69 => ⟨S16384x256x16, .f32⟩
  | 70 => ⟨S_, .f32⟩
  | 71 => ⟨S16384x256, .f32⟩
  | 72 => ⟨S16384x256x1, .f32⟩
  | 73 => ⟨S16384x256x16, .f32⟩
  | 74 => ⟨S16384x256x16, .f32⟩
  | 75 => ⟨S_, .f32⟩
  | 76 => ⟨S16384x256x16, .f32⟩
  | 77 => ⟨S16384x256x16, .f32⟩
  | 78 => ⟨S_, .f32⟩
  | 79 => ⟨S16384x256x16, .f32⟩
  | 80 => ⟨S16384x256x16, .f32⟩
  | 81 => ⟨S_, .f32⟩
  | 82 => ⟨S_, .f32⟩
  | 83 => ⟨S16384x256x16, .f32⟩
  | 84 => ⟨S16384x256x1, .f32⟩
  | 85 => ⟨S_, .f32⟩
  | 86 => ⟨S16384x256x1, .f32⟩
  | 87 => ⟨S16384x256x17, .f32⟩
  | 88 => ⟨S_, .f32⟩
  | 89 => ⟨S16384x256x17, .f32⟩
  | 90 => ⟨S16384x256x17, .f32⟩
  | 91 => ⟨S_, .f32⟩
  | 92 => ⟨S16384x256x17, .f32⟩
  | 93 => ⟨S16384x256x17, .f32⟩
  | 94 => ⟨S_, .f32⟩
  | 95 => ⟨S_, .f32⟩
  | 96 => ⟨S16384x256x16, .f32⟩
  | 97 => ⟨S16384x256x1, .f32⟩
  | 98 => ⟨S_, .f32⟩
  | 99 => ⟨S16384x256x1, .f32⟩
  | 100 => ⟨S16384x256x17, .f32⟩
  | 101 => ⟨S_, .f32⟩
  | 102 => ⟨S16384x256x17, .f32⟩
  | 103 => ⟨S16384x256x17, .f32⟩
  | 104 => ⟨S_, .f32⟩
  | 105 => ⟨S16384x256x17, .f32⟩
  | 106 => ⟨S16384x256x17, .f32⟩
  | 107 => ⟨S16384x256x16, .f32⟩
  | 108 => ⟨S16384x256x16, .f32⟩
  | 109 => ⟨S16384x256x16, .f32⟩
  | 110 => ⟨S16384x256x16, .f32⟩
  | 111 => ⟨S16384x256x16, .f32⟩
  | 112 => ⟨S16384x256x16, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S16384x256x1, .f32⟩
  | 120 => ⟨S_, .f32⟩
  | 121 => ⟨S16384x256x1, .f32⟩
  | 122 => ⟨S16384x256x17, .f32⟩
  | 123 => ⟨S_, .f32⟩
  | 124 => ⟨S16384x256x17, .f32⟩
  | 125 => ⟨S16384x256x17, .f32⟩
  | 126 => ⟨S16384x256x17, .f32⟩
  | 127 => ⟨S16384x256x17, .f32⟩
  | _ => ⟨S16384x256, .f32⟩

abbrev hbmTy0_1 (i : Nat) : BufTy := match i % 128 with
  | 0 => ⟨S16384x256x17, .i1⟩
  | 1 => ⟨S16384x256x17, .f32⟩
  | 2 => ⟨S16384x256x17, .f32⟩
  | 3 => ⟨S16384x256x17, .f32⟩
  | 4 => ⟨S16384x256x17, .f32⟩
  | 5 => ⟨S16384x256x17, .f32⟩
  | 6 => ⟨S16384x256x17, .f32⟩
  | 7 => ⟨S16384x256x17, .f32⟩
  | 8 => ⟨S16384x256x17, .f32⟩
  | 9 => ⟨S_, .f32⟩
  | 10 => ⟨S16384x256x17, .f32⟩
  | 11 => ⟨S16384x256x17, .f32⟩
  | 12 => ⟨S_, .f32⟩
  | 13 => ⟨S16384x256, .f32⟩
  | 14 => ⟨S16384x256, .i1⟩
  | 15 => ⟨S_, .f32⟩
  | 16 => ⟨S16384x256, .f32⟩
  | 17 => ⟨S16384x256, .i1⟩
  | 18 => ⟨S16384x256, .i1⟩
  | 19 => ⟨S_, .f32⟩
  | 20 => ⟨S_, .f32⟩
  | 21 => ⟨S_, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256x1, .f32⟩
  | 28 => ⟨S16384x256x15, .f32⟩
  | 29 => ⟨S16384x256x15, .f32⟩
  | 30 => ⟨S16384x256x15, .i1⟩
  | 31 => ⟨S16384x256x15, .i32⟩
  | 32 => ⟨S_, .i32⟩
  | 33 => ⟨S16384x256, .i32⟩
  | 34 => ⟨S16384x256x16, .f32⟩
  | 35 => ⟨S16384x256x1, .i32⟩
  | 36 => ⟨S_, .i32⟩
  | 37 => ⟨S16384x256x1, .i32⟩
  | 38 => ⟨S16384x256x1, .i1⟩
  | 39 => ⟨S_, .i32⟩
  | 40 => ⟨S16384x256x1, .i32⟩
  | 41 => ⟨S16384x256x1, .i32⟩
  | 42 => ⟨S16384x256x1, .i32⟩
  | 43 => ⟨S16384x256x1x1, .i32⟩
  | 44 => ⟨S1, .i32⟩
  | 45 => ⟨S_, .i32⟩
  | 46 => ⟨S16384x256x1x1, .i32⟩
  | 47 => ⟨S16384x256x1x1, .i1⟩
  | 48 => ⟨S1x1x1x1, .i32⟩
  | 49 => ⟨S16384x256x1x1, .i32⟩
  | 50 => ⟨S16384x256x1x1, .i1⟩
  | 51 => ⟨S16384x256x1x1, .i1⟩
  | 52 => ⟨S_, .i1⟩
  | 53 => ⟨S16384x256x1, .i1⟩
  | 54 => ⟨S16384x256x1, .f32⟩
  | 55 => ⟨S_, .f32⟩
  | 56 => ⟨S16384x256x1, .f32⟩
  | 57 => ⟨S16384x256x1, .f32⟩
  | 58 => ⟨S16384x256, .f32⟩
  | 59 => ⟨S16384x256x16, .f32⟩
  | 60 => ⟨S16384x256x1, .i32⟩
  | 61 => ⟨S_, .i32⟩
  | 62 => ⟨S16384x256x1, .i32⟩
  | 63 => ⟨S16384x256x1, .i1⟩
  | 64 => ⟨S_, .i32⟩
  | 65 => ⟨S16384x256x1, .i32⟩
  | 66 => ⟨S16384x256x1, .i32⟩
  | 67 => ⟨S16384x256x1, .i32⟩
  | 68 => ⟨S16384x256x1x1, .i32⟩
  | 69 => ⟨S1, .i32⟩
  | 70 => ⟨S_, .i32⟩
  | 71 => ⟨S16384x256x1x1, .i32⟩
  | 72 => ⟨S16384x256x1x1, .i1⟩
  | 73 => ⟨S1x1x1x1, .i32⟩
  | 74 => ⟨S16384x256x1x1, .i32⟩
  | 75 => ⟨S16384x256x1x1, .i1⟩
  | 76 => ⟨S16384x256x1x1, .i1⟩
  | 77 => ⟨S_, .i1⟩
  | 78 => ⟨S16384x256x1, .i1⟩
  | 79 => ⟨S16384x256x1, .f32⟩
  | 80 => ⟨S_, .f32⟩
  | 81 => ⟨S16384x256x1, .f32⟩
  | 82 => ⟨S16384x256x1, .f32⟩
  | 83 => ⟨S16384x256, .f32⟩
  | 84 => ⟨S16384x256x1, .i32⟩
  | 85 => ⟨S_, .i32⟩
  | 86 => ⟨S16384x256x1, .i32⟩
  | 87 => ⟨S16384x256x1, .i1⟩
  | 88 => ⟨S_, .i32⟩
  | 89 => ⟨S16384x256x1, .i32⟩
  | 90 => ⟨S16384x256x1, .i32⟩
  | 91 => ⟨S16384x256x1, .i32⟩
  | 92 => ⟨S16384x256x1x1, .i32⟩
  | 93 => ⟨S1, .i32⟩
  | 94 => ⟨S_, .i32⟩
  | 95 => ⟨S16384x256x1x1, .i32⟩
  | 96 => ⟨S16384x256x1x1, .i1⟩
  | 97 => ⟨S1x1x1x1, .i32⟩
  | 98 => ⟨S16384x256x1x1, .i32⟩
  | 99 => ⟨S16384x256x1x1, .i1⟩
  | 100 => ⟨S16384x256x1x1, .i1⟩
  | 101 => ⟨S_, .i1⟩
  | 102 => ⟨S16384x256x1, .i1⟩
  | 103 => ⟨S16384x256x1, .f32⟩
  | 104 => ⟨S_, .f32⟩
  | 105 => ⟨S16384x256x1, .f32⟩
  | 106 => ⟨S16384x256x1, .f32⟩
  | 107 => ⟨S16384x256, .f32⟩
  | 108 => ⟨S16384x256x1, .i32⟩
  | 109 => ⟨S_, .i32⟩
  | 110 => ⟨S16384x256x1, .i32⟩
  | 111 => ⟨S16384x256x1, .i1⟩
  | 112 => ⟨S_, .i32⟩
  | 113 => ⟨S16384x256x1, .i32⟩
  | 114 => ⟨S16384x256x1, .i32⟩
  | 115 => ⟨S16384x256x1, .i32⟩
  | 116 => ⟨S16384x256x1x1, .i32⟩
  | 117 => ⟨S1, .i32⟩
  | 118 => ⟨S_, .i32⟩
  | 119 => ⟨S16384x256x1x1, .i32⟩
  | 120 => ⟨S16384x256x1x1, .i1⟩
  | 121 => ⟨S1x1x1x1, .i32⟩
  | 122 => ⟨S16384x256x1x1, .i32⟩
  | 123 => ⟨S16384x256x1x1, .i1⟩
  | 124 => ⟨S16384x256x1x1, .i1⟩
  | 125 => ⟨S_, .i1⟩
  | 126 => ⟨S16384x256x1, .i1⟩
  | 127 => ⟨S16384x256x1, .f32⟩
  | _ => ⟨S16384x256, .f32⟩

abbrev hbmTy0_2 (i : Nat) : BufTy := match i % 128 with
  | 0 => ⟨S_, .f32⟩
  | 1 => ⟨S16384x256x1, .f32⟩
  | 2 => ⟨S16384x256x1, .f32⟩
  | 3 => ⟨S16384x256, .f32⟩
  | 4 => ⟨S16384x256x16, .f32⟩
  | 5 => ⟨S16384x256x1, .i32⟩
  | 6 => ⟨S_, .i32⟩
  | 7 => ⟨S16384x256x1, .i32⟩
  | 8 => ⟨S16384x256x1, .i1⟩
  | 9 => ⟨S_, .i32⟩
  | 10 => ⟨S16384x256x1, .i32⟩
  | 11 => ⟨S16384x256x1, .i32⟩
  | 12 => ⟨S16384x256x1, .i32⟩
  | 13 => ⟨S16384x256x1x1, .i32⟩
  | 14 => ⟨S1, .i32⟩
  | 15 => ⟨S_, .i32⟩
  | 16 => ⟨S16384x256x1x1, .i32⟩
  | 17 => ⟨S16384x256x1x1, .i1⟩
  | 18 => ⟨S1x1x1x1, .i32⟩
  | 19 => ⟨S16384x256x1x1, .i32⟩
  | 20 => ⟨S16384x256x1x1, .i1⟩
  | 21 => ⟨S16384x256x1x1, .i1⟩
  | 22 => ⟨S_, .i1⟩
  | 23 => ⟨S16384x256x1, .i1⟩
  | 24 => ⟨S16384x256x1, .f32⟩
  | 25 => ⟨S_, .f32⟩
  | 26 => ⟨S16384x256x1, .f32⟩
  | 27 => ⟨S16384x256x1, .f32⟩
  | 28 => ⟨S16384x256, .f32⟩
  | 29 => ⟨S16384x256x16, .f32⟩
  | 30 => ⟨S16384x256x1, .i32⟩
  | 31 => ⟨S_, .i32⟩
  | 32 => ⟨S16384x256x1, .i32⟩
  | 33 => ⟨S16384x256x1, .i1⟩
  | 34 => ⟨S_, .i32⟩
  | 35 => ⟨S16384x256x1, .i32⟩
  | 36 => ⟨S16384x256x1, .i32⟩
  | 37 => ⟨S16384x256x1, .i32⟩
  | 38 => ⟨S16384x256x1x1, .i32⟩
  | 39 => ⟨S1, .i32⟩
  | 40 => ⟨S_, .i32⟩
  | 41 => ⟨S16384x256x1x1, .i32⟩
  | 42 => ⟨S16384x256x1x1, .i1⟩
  | 43 => ⟨S1x1x1x1, .i32⟩
  | 44 => ⟨S16384x256x1x1, .i32⟩
  | 45 => ⟨S16384x256x1x1, .i1⟩
  | 46 => ⟨S16384x256x1x1, .i1⟩
  | 47 => ⟨S_, .i1⟩
  | 48 => ⟨S16384x256x1, .i1⟩
  | 49 => ⟨S16384x256x1, .f32⟩
  | 50 => ⟨S_, .f32⟩
  | 51 => ⟨S16384x256x1, .f32⟩
  | 52 => ⟨S16384x256x1, .f32⟩
  | 53 => ⟨S16384x256, .f32⟩
  | 54 => ⟨S16384x256, .f32⟩
  | 55 => ⟨S16384x256, .f32⟩
  | 56 => ⟨S16384x256, .f32⟩
  | 57 => ⟨S_, .f32⟩
  | 58 => ⟨S16384x256, .f32⟩
  | 59 => ⟨S16384x256, .f32⟩
  | 60 => ⟨S16384x256, .f32⟩
  | 61 => ⟨S16384x256, .f32⟩
  | 62 => ⟨S_, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S16384x256, .f32⟩
  | 69 => ⟨S16384x256, .f32⟩
  | 70 => ⟨S16384x256, .f32⟩
  | 71 => ⟨S16384x256, .f32⟩
  | 72 => ⟨S16384x256, .f32⟩
  | 73 => ⟨S16384x256, .f32⟩
  | 74 => ⟨S16384x256, .f32⟩
  | 75 => ⟨S16384x256, .f32⟩
  | 76 => ⟨S16384x256, .f32⟩
  | 77 => ⟨S16384x256, .f32⟩
  | 78 => ⟨S_, .f32⟩
  | 79 => ⟨S16384x256, .f32⟩
  | 80 => ⟨S16384x256, .f32⟩
  | 81 => ⟨S16384x256, .f32⟩
  | 82 => ⟨S16384x256, .f32⟩
  | 83 => ⟨S_, .f32⟩
  | 84 => ⟨S16384x256, .f32⟩
  | 85 => ⟨S16384x256, .f32⟩
  | 86 => ⟨S16384x256, .f32⟩
  | 87 => ⟨S16384x256, .f32⟩
  | 88 => ⟨S16384x256, .f32⟩
  | 89 => ⟨S16384x256, .f32⟩
  | 90 => ⟨S16384x256, .f32⟩
  | 91 => ⟨S16384x256, .f32⟩
  | 92 => ⟨S16384x256, .f32⟩
  | 93 => ⟨S16384x256, .f32⟩
  | 94 => ⟨S_, .f32⟩
  | 95 => ⟨S_, .f32⟩
  | 96 => ⟨S16384x256, .f32⟩
  | 97 => ⟨S16384x256, .f32⟩
  | 98 => ⟨S_, .f32⟩
  | 99 => ⟨S16384, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_call0_cst : Ref sig .tc := ⟨.hbm, 81, rfl⟩
abbrev main_call2_call0_v0 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_call3_call0_cst : Ref sig .tc := ⟨.hbm, 94, rfl⟩
abbrev main_call3_call0_v0 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_17 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call4_cst : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_19 : Ref sig .tc := ⟨.hbm, 140, rfl⟩
abbrev main_v91 : Ref sig .tc := ⟨.hbm, 141, rfl⟩
abbrev main_v92 : Ref sig .tc := ⟨.hbm, 142, rfl⟩
abbrev main_cst_20 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_21 : Ref sig .tc := ⟨.hbm, 147, rfl⟩
abbrev main_cst_22 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_call6_c : Ref sig .tc := ⟨.hbm, 164, rfl⟩
abbrev main_call6_v0 : Ref sig .tc := ⟨.hbm, 165, rfl⟩
abbrev main_call6_v1 : Ref sig .tc := ⟨.hbm, 166, rfl⟩
abbrev main_call6_c_0 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_c_1 : Ref sig .tc := ⟨.hbm, 172, rfl⟩
abbrev main_call6_c_2 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_c_3 : Ref sig .tc := ⟨.hbm, 180, rfl⟩
abbrev main_call6_v12 : Ref sig .tc := ⟨.hbm, 181, rfl⟩
abbrev main_call6_v13 : Ref sig .tc := ⟨.hbm, 182, rfl⟩
abbrev main_call6_cst : Ref sig .tc := ⟨.hbm, 183, rfl⟩
abbrev main_call6_v14 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_cst : Ref sig .tc := ⟨.hbm, 208, rfl⟩
abbrev main_call7_v14 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_call8_c : Ref sig .tc := ⟨.hbm, 213, rfl⟩
abbrev main_call8_v0 : Ref sig .tc := ⟨.hbm, 214, rfl⟩
abbrev main_call8_v1 : Ref sig .tc := ⟨.hbm, 215, rfl⟩
abbrev main_call8_c_0 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_call8_v5 : Ref sig .tc := ⟨.hbm, 220, rfl⟩
abbrev main_call8_c_1 : Ref sig .tc := ⟨.hbm, 221, rfl⟩
abbrev main_call8_c_2 : Ref sig .tc := ⟨.hbm, 222, rfl⟩
abbrev main_call8_v6 : Ref sig .tc := ⟨.hbm, 223, rfl⟩
abbrev main_call8_v7 : Ref sig .tc := ⟨.hbm, 224, rfl⟩
abbrev main_call8_v8 : Ref sig .tc := ⟨.hbm, 225, rfl⟩
abbrev main_call8_v9 : Ref sig .tc := ⟨.hbm, 226, rfl⟩
abbrev main_call8_v10 : Ref sig .tc := ⟨.hbm, 227, rfl⟩
abbrev main_call8_v11 : Ref sig .tc := ⟨.hbm, 228, rfl⟩
abbrev main_call8_c_3 : Ref sig .tc := ⟨.hbm, 229, rfl⟩
abbrev main_call8_v12 : Ref sig .tc := ⟨.hbm, 230, rfl⟩
abbrev main_call8_v13 : Ref sig .tc := ⟨.hbm, 231, rfl⟩
abbrev main_call8_cst : Ref sig .tc := ⟨.hbm, 232, rfl⟩
abbrev main_call8_v14 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_call9_c : Ref sig .tc := ⟨.hbm, 237, rfl⟩
abbrev main_call9_v0 : Ref sig .tc := ⟨.hbm, 238, rfl⟩
abbrev main_call9_v1 : Ref sig .tc := ⟨.hbm, 239, rfl⟩
abbrev main_call9_c_0 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_call9_v5 : Ref sig .tc := ⟨.hbm, 244, rfl⟩
abbrev main_call9_c_1 : Ref sig .tc := ⟨.hbm, 245, rfl⟩
abbrev main_call9_c_2 : Ref sig .tc := ⟨.hbm, 246, rfl⟩
abbrev main_call9_v6 : Ref sig .tc := ⟨.hbm, 247, rfl⟩
abbrev main_call9_v7 : Ref sig .tc := ⟨.hbm, 248, rfl⟩
abbrev main_call9_v8 : Ref sig .tc := ⟨.hbm, 249, rfl⟩
abbrev main_call9_v9 : Ref sig .tc := ⟨.hbm, 250, rfl⟩
abbrev main_call9_v10 : Ref sig .tc := ⟨.hbm, 251, rfl⟩
abbrev main_call9_v11 : Ref sig .tc := ⟨.hbm, 252, rfl⟩
abbrev main_call9_c_3 : Ref sig .tc := ⟨.hbm, 253, rfl⟩
abbrev main_call9_v12 : Ref sig .tc := ⟨.hbm, 254, rfl⟩
abbrev main_call9_v13 : Ref sig .tc := ⟨.hbm, 255, rfl⟩
abbrev main_call9_cst : Ref sig .tc := ⟨.hbm, 256, rfl⟩
abbrev main_call9_v14 : Ref sig .tc := ⟨.hbm, 257, rfl⟩
abbrev main_v115 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_call10_c : Ref sig .tc := ⟨.hbm, 262, rfl⟩
abbrev main_call10_v0 : Ref sig .tc := ⟨.hbm, 263, rfl⟩
abbrev main_call10_v1 : Ref sig .tc := ⟨.hbm, 264, rfl⟩
abbrev main_call10_c_0 : Ref sig .tc := ⟨.hbm, 265, rfl⟩
abbrev main_call10_v2 : Ref sig .tc := ⟨.hbm, 266, rfl⟩
abbrev main_call10_v3 : Ref sig .tc := ⟨.hbm, 267, rfl⟩
abbrev main_call10_v4 : Ref sig .tc := ⟨.hbm, 268, rfl⟩
abbrev main_call10_v5 : Ref sig .tc := ⟨.hbm, 269, rfl⟩
abbrev main_call10_c_1 : Ref sig .tc := ⟨.hbm, 270, rfl⟩
abbrev main_call10_c_2 : Ref sig .tc := ⟨.hbm, 271, rfl⟩
abbrev main_call10_v6 : Ref sig .tc := ⟨.hbm, 272, rfl⟩
abbrev main_call10_v7 : Ref sig .tc := ⟨.hbm, 273, rfl⟩
abbrev main_call10_v8 : Ref sig .tc := ⟨.hbm, 274, rfl⟩
abbrev main_call10_v9 : Ref sig .tc := ⟨.hbm, 275, rfl⟩
abbrev main_call10_v10 : Ref sig .tc := ⟨.hbm, 276, rfl⟩
abbrev main_call10_v11 : Ref sig .tc := ⟨.hbm, 277, rfl⟩
abbrev main_call10_c_3 : Ref sig .tc := ⟨.hbm, 278, rfl⟩
abbrev main_call10_v12 : Ref sig .tc := ⟨.hbm, 279, rfl⟩
abbrev main_call10_v13 : Ref sig .tc := ⟨.hbm, 280, rfl⟩
abbrev main_call10_cst : Ref sig .tc := ⟨.hbm, 281, rfl⟩
abbrev main_call10_v14 : Ref sig .tc := ⟨.hbm, 282, rfl⟩
abbrev main_v119 : Ref sig .tc := ⟨.hbm, 283, rfl⟩
abbrev main_v120 : Ref sig .tc := ⟨.hbm, 284, rfl⟩
abbrev main_v121 : Ref sig .tc := ⟨.hbm, 285, rfl⟩
abbrev main_v122 : Ref sig .tc := ⟨.hbm, 286, rfl⟩
abbrev main_call11_c : Ref sig .tc := ⟨.hbm, 287, rfl⟩
abbrev main_call11_v0 : Ref sig .tc := ⟨.hbm, 288, rfl⟩
abbrev main_call11_v1 : Ref sig .tc := ⟨.hbm, 289, rfl⟩
abbrev main_call11_c_0 : Ref sig .tc := ⟨.hbm, 290, rfl⟩
abbrev main_call11_v2 : Ref sig .tc := ⟨.hbm, 291, rfl⟩
abbrev main_call11_v3 : Ref sig .tc := ⟨.hbm, 292, rfl⟩
abbrev main_call11_v4 : Ref sig .tc := ⟨.hbm, 293, rfl⟩
abbrev main_call11_v5 : Ref sig .tc := ⟨.hbm, 294, rfl⟩
abbrev main_call11_c_1 : Ref sig .tc := ⟨.hbm, 295, rfl⟩
abbrev main_call11_c_2 : Ref sig .tc := ⟨.hbm, 296, rfl⟩
abbrev main_call11_v6 : Ref sig .tc := ⟨.hbm, 297, rfl⟩
abbrev main_call11_v7 : Ref sig .tc := ⟨.hbm, 298, rfl⟩
abbrev main_call11_v8 : Ref sig .tc := ⟨.hbm, 299, rfl⟩
abbrev main_call11_v9 : Ref sig .tc := ⟨.hbm, 300, rfl⟩
abbrev main_call11_v10 : Ref sig .tc := ⟨.hbm, 301, rfl⟩
abbrev main_call11_v11 : Ref sig .tc := ⟨.hbm, 302, rfl⟩
abbrev main_call11_c_3 : Ref sig .tc := ⟨.hbm, 303, rfl⟩
abbrev main_call11_v12 : Ref sig .tc := ⟨.hbm, 304, rfl⟩
abbrev main_call11_v13 : Ref sig .tc := ⟨.hbm, 305, rfl⟩
abbrev main_call11_cst : Ref sig .tc := ⟨.hbm, 306, rfl⟩
abbrev main_call11_v14 : Ref sig .tc := ⟨.hbm, 307, rfl⟩
abbrev main_v123 : Ref sig .tc := ⟨.hbm, 308, rfl⟩
abbrev main_v124 : Ref sig .tc := ⟨.hbm, 309, rfl⟩
abbrev main_v125 : Ref sig .tc := ⟨.hbm, 310, rfl⟩
abbrev main_v126 : Ref sig .tc := ⟨.hbm, 311, rfl⟩
abbrev main_v127 : Ref sig .tc := ⟨.hbm, 312, rfl⟩
abbrev main_cst_23 : Ref sig .tc := ⟨.hbm, 313, rfl⟩
abbrev main_v128 : Ref sig .tc := ⟨.hbm, 314, rfl⟩
abbrev main_v129 : Ref sig .tc := ⟨.hbm, 315, rfl⟩
abbrev main_v130 : Ref sig .tc := ⟨.hbm, 316, rfl⟩
abbrev main_v131 : Ref sig .tc := ⟨.hbm, 317, rfl⟩
abbrev main_cst_24 : Ref sig .tc := ⟨.hbm, 318, rfl⟩
abbrev main_v132 : Ref sig .tc := ⟨.hbm, 319, rfl⟩
abbrev main_v133 : Ref sig .tc := ⟨.hbm, 320, rfl⟩
abbrev main_v134 : Ref sig .tc := ⟨.hbm, 321, rfl⟩
abbrev main_v135 : Ref sig .tc := ⟨.hbm, 322, rfl⟩
abbrev main_v136 : Ref sig .tc := ⟨.hbm, 323, rfl⟩
abbrev main_v137 : Ref sig .tc := ⟨.hbm, 324, rfl⟩
abbrev main_v138 : Ref sig .tc := ⟨.hbm, 325, rfl⟩
abbrev main_v139 : Ref sig .tc := ⟨.hbm, 326, rfl⟩
abbrev main_v140 : Ref sig .tc := ⟨.hbm, 327, rfl⟩
abbrev main_v141 : Ref sig .tc := ⟨.hbm, 328, rfl⟩
abbrev main_v142 : Ref sig .tc := ⟨.hbm, 329, rfl⟩
abbrev main_v143 : Ref sig .tc := ⟨.hbm, 330, rfl⟩
abbrev main_v144 : Ref sig .tc := ⟨.hbm, 331, rfl⟩
abbrev main_v145 : Ref sig .tc := ⟨.hbm, 332, rfl⟩
abbrev main_v146 : Ref sig .tc := ⟨.hbm, 333, rfl⟩
abbrev main_cst_25 : Ref sig .tc := ⟨.hbm, 334, rfl⟩
abbrev main_v147 : Ref sig .tc := ⟨.hbm, 335, rfl⟩
abbrev main_v148 : Ref sig .tc := ⟨.hbm, 336, rfl⟩
abbrev main_v149 : Ref sig .tc := ⟨.hbm, 337, rfl⟩
abbrev main_v150 : Ref sig .tc := ⟨.hbm, 338, rfl⟩
abbrev main_cst_26 : Ref sig .tc := ⟨.hbm, 339, rfl⟩
abbrev main_v151 : Ref sig .tc := ⟨.hbm, 340, rfl⟩
abbrev main_v152 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_cst_27 : Ref sig .tc := ⟨.hbm, 350, rfl⟩
abbrev main_call13_v0 : Ref sig .tc := ⟨.hbm, 351, rfl⟩
abbrev main_call13_v1 : Ref sig .tc := ⟨.hbm, 352, rfl⟩
abbrev main_v161 : Ref sig .tc := ⟨.hbm, 353, rfl⟩
abbrev main_cst_28 : Ref sig .tc := ⟨.hbm, 354, rfl⟩
abbrev main_v162 : Ref sig .tc := ⟨.hbm, 355, rfl⟩

abbrev nD : Nat := 1
abbrev τ : Topo := Topo.v7x

variable {F : FTy → Type} [FloatOps F]
-- ==== Proof.Frames.lean ====
/- The three frames, each from the generated run of its program, and the constants named in the idealization. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof.Frames

open Idealize.ShloMosaic Idealize.SL.Sem

/-- The kernel terminates, leaves its arguments as launched and every counter at zero. -/
theorem kernel : Cert.quiescent_Kernel := fun m ρ _ => Cert.Kernel.Gen.frame m ρ

/-- The same of the idealized kernel. -/
theorem kernelIdeal : Cert.quiescent_KernelIdeal := fun m ρ _ => Cert.KernelIdeal.Gen.frame m ρ

/-- The same of the reference: its run states the arguments, and it declares no semaphore. -/
theorem referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each constant the idealization names is, at the ideal instance, the rational written for it. -/
theorem preserves : Cert.preserves_Kernel_KernelIdeal :=
  ⟨IdealRules.named_const.statement Cert.KernelIdeal.κ "free_width" .f32 0x40BCED91#32 ((738 / 125 : ℝ) : EReal) rfl,
   IdealRules.named_const.statement Cert.KernelIdeal.κ "min_width" .f32 0x3BC49BA6#32 ((3 / 500 : ℝ) : EReal) rfl,
   IdealRules.named_const.statement Cert.KernelIdeal.κ "min_slope" .f32 0x3A83126F#32 ((1 / 1000 : ℝ) : EReal) rfl⟩

end Cert.Proof.Frames

end
-- ==== Proof.Chain.lean ====
/- The spline of one half block as a chain of sixteen steps on vectors, at any float interpretation: what the kernel's
   second region computes from its 47 parameter planes and its inputs. -/
module

public import proofs.«01_k».proof.Proof.Gen.KernelIdeal.Frame

@[expose] public section

noncomputable section

namespace Cert.Proof.Chain

open Idealize.ShloMosaic Cert.KernelIdeal Cert.KernelIdeal.Gen

variable {F : FTy → Type} [FloatOps F] [Named F]

/-- A half block's vectors: 64 features by 256 rows. -/
abbrev HV (F : FTy → Type) : Type := FVec F S64x256 .f32

/-- The constant vector of a bit pattern. -/
def cst (b : BitVec 32) : FVec F S64x256 .f32 := broadcast S64x256 (Scalar.ofBits .f32 b : F .f32)
/-- The constant vector of a named number. -/
def nam (n : String) (b : BitVec 32) : FVec F S64x256 .f32 := broadcast S64x256 (Named.named (F := F) κ n b : F .f32)

/-- The input clamped to the interval from −3 to 3. -/
def clampV (x : HV F) : HV F := minimumf (cst 0x40400000#32) (maximumf (cst 0xC0400000#32) x)
/-- The sum of the exponentials of sixteen planes from the `o`-th, in order. -/
def sumV (P : ℕ → HV F) (o : ℕ) (n : ℕ) : HV F := Nat.rec (exp (P o)) (fun k s => addf s (exp (P (o + (k + 1))))) n
/-- The factor of the exponentials: the free width over their sum. -/
def scaleV (P : ℕ → HV F) (o : ℕ) : HV F := divf (nam "free_width" 0x40BCED91#32) (sumV P o 15)
/-- A bin's width (`o = 0`) or height (`o = 16`). -/
def binV (P : ℕ → HV F) (o k : ℕ) : HV F := addf (nam "min_width" 0x3BC49BA6#32) (mulf (exp (P (o + k))) (scaleV P o))
/-- The slope at the knot after bin `k`. -/
def slopeV (P : ℕ → HV F) (k : ℕ) : HV F :=
  addf (nam "min_slope" 0x3A83126F#32) (log (addf (cst 0x3F800000#32) (exp (P (32 + k)))))

/-- What a step carries: the knot positions reached, the slope there, whether the input lies before it, and the six
    numbers of the bin chosen so far. -/
structure St (F : FTy → Type) where
  cx : FVec F S64x256 .f32
  cy : FVec F S64x256 .f32
  dp : FVec F S64x256 .f32
  lt : IVec S64x256 1
  ax : FVec F S64x256 .f32
  ay : FVec F S64x256 .f32
  aw : FVec F S64x256 .f32
  ah : FVec F S64x256 .f32
  a0 : FVec F S64x256 .f32
  a1 : FVec F S64x256 .f32

/-- The first bin. -/
def first (P : ℕ → HV F) (xc : HV F) : St F where
  cx := subf (binV P 0 0) (cst 0x40400000#32)
  cy := subf (binV P 16 0) (cst 0x40400000#32)
  dp := slopeV P 0
  lt := cmpf .olt xc (subf (binV P 0 0) (cst 0x40400000#32))
  ax := select (cmpf .olt xc (subf (binV P 0 0) (cst 0x40400000#32))) (cst 0xC0400000#32) (cst 0x00000000#32)
  ay := select (cmpf .olt xc (subf (binV P 0 0) (cst 0x40400000#32))) (cst 0xC0400000#32) (cst 0x00000000#32)
  aw := select (cmpf .olt xc (subf (binV P 0 0) (cst 0x40400000#32))) (binV P 0 0) (cst 0x00000000#32)
  ah := select (cmpf .olt xc (subf (binV P 0 0) (cst 0x40400000#32))) (binV P 16 0) (cst 0x00000000#32)
  a0 := select (cmpf .olt xc (subf (binV P 0 0) (cst 0x40400000#32))) (cst 0x3F800000#32) (cst 0x00000000#32)
  a1 := select (cmpf .olt xc (subf (binV P 0 0) (cst 0x40400000#32))) (slopeV P 0) (cst 0x00000000#32)

/-- Whether the input lies before the knot after bin `k` and not before the one after the bin before. -/
def selV (P : ℕ → HV F) (xc : HV F) (k : ℕ) (s : St F) : IVec S64x256 1 :=
  andi (cmpf .olt xc (addf s.cx (binV P 0 k))) (xori s.lt (constantI S64x256 1 1#1))

/-- An inner bin. -/
def step (P : ℕ → HV F) (xc : HV F) (k : ℕ) (s : St F) : St F where
  cx := addf s.cx (binV P 0 k)
  cy := addf s.cy (binV P 16 k)
  dp := slopeV P k
  lt := cmpf .olt xc (addf s.cx (binV P 0 k))
  ax := select (selV P xc k s) s.cx s.ax
  ay := select (selV P xc k s) s.cy s.ay
  aw := select (selV P xc k s) (binV P 0 k) s.aw
  ah := select (selV P xc k s) (binV P 16 k) s.ah
  a0 := select (selV P xc k s) s.dp s.a0
  a1 := select (selV P xc k s) (slopeV P k) s.a1

/-- The state after bins 0 to `n`. -/
def chain (P : ℕ → HV F) (xc : HV F) (n : ℕ) : St F := Nat.rec (first P xc) (fun k s => step P xc (k + 1) s) n

/-- The bin's six numbers after the last bin. -/
structure Acc (F : FTy → Type) where
  ax : FVec F S64x256 .f32
  ay : FVec F S64x256 .f32
  aw : FVec F S64x256 .f32
  ah : FVec F S64x256 .f32
  a0 : FVec F S64x256 .f32
  a1 : FVec F S64x256 .f32

/-- The last bin, chosen when no other was. -/
def last (P : ℕ → HV F) (s : St F) : Acc F where
  ax := select (xori s.lt (constantI S64x256 1 1#1)) s.cx s.ax
  ay := select (xori s.lt (constantI S64x256 1 1#1)) s.cy s.ay
  aw := select (xori s.lt (constantI S64x256 1 1#1)) (binV P 0 15) s.aw
  ah := select (xori s.lt (constantI S64x256 1 1#1)) (binV P 16 15) s.ah
  a0 := select (xori s.lt (constantI S64x256 1 1#1)) s.dp s.a0
  a1 := select (xori s.lt (constantI S64x256 1 1#1)) (cst 0x3F800000#32) s.a1

/-- The chosen bin's six numbers. -/
def accV (P : ℕ → HV F) (x : HV F) : Acc F := last P (chain P (clampV x) 14)

/-- One over the bin's width. -/
def rwV (a : Acc F) : HV F := divf (cst 0x3F800000#32) a.aw
/-- The bin's mean slope. -/
def skV (a : Acc F) : HV F := mulf a.ah (rwV a)
/-- The position within the bin. -/
def thV (xc : HV F) (a : Acc F) : HV F := mulf (subf xc a.ax) (rwV a)
/-- One minus that position. -/
def omV (xc : HV F) (a : Acc F) : HV F := subf (cst 0x3F800000#32) (thV xc a)
/-- Their product. -/
def tmV (xc : HV F) (a : Acc F) : HV F := mulf (thV xc a) (omV xc a)
/-- The position squared. -/
def t2V (xc : HV F) (a : Acc F) : HV F := mulf (thV xc a) (thV xc a)
/-- One over the rational function's denominator. -/
def rdV (xc : HV F) (a : Acc F) : HV F :=
  divf (cst 0x3F800000#32)
    (addf (skV a) (mulf (subf (addf a.a0 a.a1) (mulf (cst 0x40000000#32) (skV a))) (tmV xc a)))
/-- The spline's value. -/
def valV (xc : HV F) (a : Acc F) : HV F :=
  addf a.ay (mulf (mulf a.ah (addf (mulf (skV a) (t2V xc a)) (mulf a.a0 (tmV xc a)))) (rdV xc a))
/-- The spline's slope. -/
def derV (xc : HV F) (a : Acc F) : HV F :=
  mulf (mulf (mulf (skV a) (skV a))
      (addf (addf (mulf a.a1 (t2V xc a)) (mulf (mulf (cst 0x40000000#32) (skV a)) (tmV xc a)))
        (mulf (mulf a.a0 (omV xc a)) (omV xc a))))
    (mulf (rdV xc a) (rdV xc a))
/-- Whether the input lies strictly between −3 and 3. -/
def insV (x : HV F) : IVec S64x256 1 := andi (cmpf .ogt x (cst 0xC0400000#32)) (cmpf .olt x (cst 0x40400000#32))
/-- The transformed inputs. -/
def yV (P : ℕ → HV F) (x : HV F) : HV F := select (insV x) (valV (clampV x) (accV P x)) x
/-- The logarithms of the slopes, zero outside. -/
def ldV (P : ℕ → HV F) (x : HV F) : HV F := select (insV x) (log (derV (clampV x) (accV P x))) (cst 0x00000000#32)
/-- Their sums over the block's features. -/
def ldS (P : ℕ → HV F) (x : HV F) : FVec F S1x1x256 .f32 :=
  shapeCast S1x1x256 (shapeCast S1x256 (multiReduction .add [0] S256 (ldV P x) 0x00000000#32 reduces_S64x256_S256
    (.inl rfl) rfl) shapeCasts_S256_S1x256) shapeCasts_S1x256_S1x1x256

end Cert.Proof.Chain

end
-- ==== Proof.Halves.lean ====
/- What the second region stores for each half of its block, as found by its run, is the chain of `Proof/Chain.lean` of
   the half's parameter planes and inputs. -/
module

public import proofs.«01_k».proof.Proof.Chain

@[expose] public section

noncomputable section

namespace Cert.Proof.Halves

open Idealize.ShloMosaic Cert.KernelIdeal Cert.KernelIdeal.Gen Cert.Proof.Chain

variable {F : FTy → Type} [FloatOps F] [Named F]
  (c : Dev nD) (arg2 : Memref sig .tc .vmem S64x512 .f32) (harg2 : arg2.IsWhole) (arg3 : Memref sig .tc .vmem S1024x512 .bf16)
  (harg3 : arg3.IsWhole) (arg4 : Memref sig .tc .vmem S3008x1024 .bf16) (harg4 : arg4.IsWhole)
  (arg5 : Memref sig .tc .vmem S3008x256 .f32) (harg5 : arg5.IsWhole)
  (arg8 : Memref sig .tc .vmem S3008x256 .f32)
  (x0 : Vec F S64x512 .f32) (x1 : Vec F S1024x512 .bf16) (x2 : Vec F S3008x1024 .bf16) (x3 : Vec F S3008x256 .f32)

/-- A plane's rows lie within the scratch buffer. -/
theorem inb_plane (j : ℕ) : ∀ a, (![64 * (j % 47), 0] : Fin 2 → ℕ) a + S64x256.size a ≤ S3008x256.size a := by
  intro a; fin_cases a
  · show 64 * (j % 47) + 64 ≤ 3008; omega
  · show 0 + 256 ≤ 256; omega

/-- The `j`-th parameter plane of a scratch buffer written by the pieces `L`: rows `64 j` to `64 j + 63`. -/
def planeOf (arg : Memref sig .tc .vmem S3008x256 .f32) (L : List (View.Piece (Elt F) S3008x256 .f32)) (j : ℕ) :
    FVec F S64x256 .f32 :=
  arg.view.readCov L (Rect.unit (s := S3008x256) ![64 * (j % 47), 0] S64x256.size (inb_plane j)).toLoadRect

/-- The first half's planes. -/
def planesA : ℕ → FVec F S64x256 .f32 :=
  planeOf arg8 (kernelRun1_A.sl.HS0_7 c arg3 harg3 arg4 harg4 arg5 harg5 x1 x2 x3)
/-- The second half's planes. -/
def planesB : ℕ → FVec F S64x256 .f32 :=
  planeOf arg8 (kernelRun1_A.sl.HS1_7 c arg3 harg3 arg4 harg4 arg5 harg5 x1 x2 x3)
/-- The first half's inputs: the block's columns 0 to 255. -/
def inA : FVec F S64x256 .f32 :=
  View.readAt (Elt F) arg2.view (Rect.unit (s := S64x512) ![0, 0] S64x256.size inb_S64x512_S64x256_0_0).toLoadRect (harg2.unread x0)
/-- The second half's inputs: the block's columns 256 to 511. -/
def inB : FVec F S64x256 .f32 :=
  View.readAt (Elt F) arg2.view (Rect.unit (s := S64x512) ![0, 256] S64x256.size inb_S64x512_S64x256_0_256).toLoadRect (harg2.unread x0)
/-- A half's inputs as the kernel reads them: the load cast to its own shape. -/
def asIn (x : FVec F S64x256 .f32) : FVec F S64x256 .f32 := shapeCast S64x256 x shapeCasts_S64x256_S64x256

set_option maxRecDepth 100000 in
/-- The first half's transformed inputs. -/
theorem yA : kernelRun1_A.sl.r_155 c arg2 harg2 arg3 harg3 arg4 harg4 arg5 harg5 arg8 x0 x1 x2 x3
    = yV (planesA c arg3 harg3 arg4 harg4 arg5 harg5 arg8 x1 x2 x3) (asIn (inA arg2 harg2 x0)) := by
  sl_kernel_rfl

set_option maxRecDepth 100000 in
/-- The first half's sums of logarithms. -/
theorem ldA : k1_pay230 (kernelRun1_A.sl.r_156 c arg2 harg2 arg3 harg3 arg4 harg4 arg5 harg5 arg8 x0 x1 x2 x3)
    = ldS (planesA c arg3 harg3 arg4 harg4 arg5 harg5 arg8 x1 x2 x3) (asIn (inA arg2 harg2 x0)) := by
  sl_kernel_rfl

set_option maxRecDepth 100000 in
/-- The second half's transformed inputs. -/
theorem yB : k1_pay1 (kernelRun1_A.sl.r_157 c arg2 harg2 x0)
      (kernelRun1_A.sl.r_307 c arg2 harg2 arg3 harg3 arg4 harg4 arg5 harg5 arg8 x0 x1 x2 x3) (kernelRun1_A.sl.r_309 c arg2 harg2 x0)
    = yV (planesB c arg3 harg3 arg4 harg4 arg5 harg5 arg8 x1 x2 x3) (asIn (inB arg2 harg2 x0)) := by
  sl_kernel_rfl

set_option maxRecDepth 100000 in
/-- The second half's sums of logarithms. -/
theorem ldB : k1_pay2 (kernelRun1_A.sl.r_308 c arg2 harg2 arg3 harg3 arg4 harg4 arg5 harg5 arg8 x0 x1 x2 x3)
      (kernelRun1_A.sl.r_309 c arg2 harg2 x0)
    = ldS (planesB c arg3 harg3 arg4 harg4 arg5 harg5 arg8 x1 x2 x3) (asIn (inB arg2 harg2 x0)) := by
  sl_kernel_rfl

set_option maxRecDepth 100000 in
/-- The pieces stored to the transformed inputs' buffer. -/
theorem run_pieces4 (i : grid1.Coords) (arg6 : Memref sig .tc .vmem S64x512 .f32) (harg6 : arg6.IsWhole)
    (arg7 : Memref sig .tc .vmem S1x1x512 .f32) (harg7 : arg7.IsWhole) (harg8 : arg8.IsWhole)
    (arg9 : Memref sig .tc .vmem S3008x256 .f32) (harg9 : arg9.IsWhole) :
    (kernelRun1_A c i arg2 harg2 arg3 harg3 arg4 harg4 arg5 harg5 arg6 harg6 arg7 harg7 arg8 harg8 arg9 harg9 x0 x1 x2 x3).1
    = [⟨Rect.unit (s := S64x512) ![0, 256] S64x256.size inb_S64x512_S64x256_0_256,
          yV (planesB c arg3 harg3 arg4 harg4 arg5 harg5 arg9 x1 x2 x3) (asIn (inB arg2 harg2 x0))⟩,
       ⟨Rect.unit (s := S64x512) ![0, 0] S64x256.size inb_S64x512_S64x256_0_0,
          yV (planesA c arg3 harg3 arg4 harg4 arg5 harg5 arg8 x1 x2 x3) (asIn (inA arg2 harg2 x0))⟩] := by
  rw [← yA, ← yB]
  unfold kernelRun1_A; rfl

set_option maxRecDepth 100000 in
/-- The pieces stored to the sums' buffer. -/
theorem run_pieces5 (i : grid1.Coords) (arg6 : Memref sig .tc .vmem S64x512 .f32) (harg6 : arg6.IsWhole)
    (arg7 : Memref sig .tc .vmem S1x1x512 .f32) (harg7 : arg7.IsWhole) (harg8 : arg8.IsWhole)
    (arg9 : Memref sig .tc .vmem S3008x256 .f32) (harg9 : arg9.IsWhole) :
    (kernelRun1_A c i arg2 harg2 arg3 harg3 arg4 harg4 arg5 harg5 arg6 harg6 arg7 harg7 arg8 harg8 arg9 harg9 x0 x1 x2 x3).2.1
    = [⟨Rect.unit (s := S1x1x512) ![0, 0, 256] S1x1x256.size inb_S1x1x512_S1x1x256_0_0_256,
          ldS (planesB c arg3 harg3 arg4 harg4 arg5 harg5 arg9 x1 x2 x3) (asIn (inB arg2 harg2 x0))⟩,
       ⟨Rect.unit (s := S1x1x512) ![0, 0, 0] S1x1x256.size inb_S1x1x512_S1x1x256_0_0_0,
          ldS (planesA c arg3 harg3 arg4 harg4 arg5 harg5 arg8 x1 x2 x3) (asIn (inA arg2 harg2 x0))⟩] := by
  rw [← ldA, ← ldB]
  unfold kernelRun1_A; rfl

end Cert.Proof.Halves

end
-- ==== Proof.Consts.lean ====
/- The bit patterns both programs write, as real numbers, and the operations on real numbers among the extended ones. -/
module

public import Idealize.ShloMosaic.Lib.IdealHost

@[expose] public section

noncomputable section

namespace Cert.Proof.Consts

open Idealize.ShloMosaic

theorem bits_zero : Ideal.ofBits .f32 0x00000000#32 = ((0 : ℝ) : EReal) := by
  simp [Ideal.ofBits, Ideal.ieee]
theorem bits_one : Ideal.ofBits .f32 0x3F800000#32 = ((1 : ℝ) : EReal) := Ideal.ofBits_one_f32
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_neg_three : Ideal.ofBits .f32 0xC0400000#32 = ((-3 : ℝ) : EReal) := by
  simp [Ideal.ofBits, Ideal.ieee, -EReal.coe_mul, -EReal.coe_neg]; norm_num
theorem bits_six : Ideal.ofBits .f32 0x40C00000#32 = ((6 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num
theorem bits_thousand : Ideal.ofBits .f32 0x447A0000#32 = ((1000 : ℝ) : EReal) := by
  simp [Ideal.ofBits, Ideal.ieee, -EReal.coe_mul]; norm_num
theorem bits_inf : Ideal.ofBits .f32 0x7F800000#32 = ⊤ := by
  simp [Ideal.ofBits, Ideal.ieee]
theorem bits_neg_inf : Ideal.ofBits .f32 0xFF800000#32 = ⊥ := by
  simp [Ideal.ofBits, Ideal.ieee]

/-- The quotient of two real numbers, the divisor not zero. -/
theorem div_real {y : ℝ} (h : y ≠ 0) (x : ℝ) : Ideal.div (x : EReal) (y : EReal) = ((x * (1 / y) : ℝ) : EReal) := by
  rw [Ideal.div_coe h, ← EReal.coe_mul]

theorem exp_real (x : ℝ) : Ideal.exp (x : EReal) = ((Real.exp x : ℝ) : EReal) := rfl

/-- The logarithm of a positive real number. -/
theorem log_real {x : ℝ} (h : 0 < x) : Ideal.log (x : EReal) = ((Real.log x : ℝ) : EReal) :=
  if_neg (not_le.mpr h)

/-- The clamp of any number to the interval from −3 to 3. -/
def clamp (x : EReal) : ℝ := (min 3 (max (-3) x)).toReal

theorem coe_clamp (x : EReal) : ((clamp x : ℝ) : EReal) = min ((3 : ℝ) : EReal) (max ((-3 : ℝ) : EReal) x) := by
  have e3 : ((3 : ℝ) : EReal) = 3 := rfl
  have e4 : ((-3 : ℝ) : EReal) = -3 := rfl
  unfold clamp; rw [e3, e4]
  apply EReal.coe_toReal
  · exact ne_of_lt ((min_le_left _ _).trans_lt (by rw [← e3]; exact EReal.coe_lt_top 3))
  · apply ne_of_gt
    refine lt_min (by rw [← e3]; exact EReal.bot_lt_coe 3) (lt_max_of_lt_left (by rw [← e4]; exact EReal.bot_lt_coe _))

theorem clamp_ge (x : EReal) : -3 ≤ clamp x := by
  rw [← EReal.coe_le_coe_iff, coe_clamp]
  exact le_min (EReal.coe_le_coe_iff.mpr (by norm_num)) (le_max_left _ _)

theorem clamp_le (x : EReal) : clamp x ≤ 3 := by
  rw [← EReal.coe_le_coe_iff, coe_clamp]; exact min_le_left _ _

/-- A finite sum of real numbers among the extended ones. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

end Cert.Proof.Consts

end
-- ==== Proof.Planes.lean ====
/- The parameter planes of the second region over the extended reals: each scratch buffer holds the product of the
   block's rows of the last weights with half of the hidden activations, plus the biases. -/
module

public import proofs.«01_k».proof.Proof.Halves
public import proofs.«01_k».proof.Proof.Consts
public import Idealize.ShloMosaic.Lib.MatmulPlain
public import Idealize.ShloMosaic.Lib.WholeRead
public import Idealize.ShloMosaic.Lib.Pipeline.Value

@[expose] public section

noncomputable section

namespace Cert.Proof.Planes

open Idealize.ShloMosaic Idealize.ShloMosaic.ValueIdx Cert.KernelIdeal Cert.KernelIdeal.Gen Cert.Proof.Halves Cert.Proof.Consts
open scoped BigOperators

/-- Seven planes' product and biases at an element. -/
theorem pay448 (v0 : Vec Ideal S1024x256 .bf16) (v2 : Vec Ideal S448x1024 .bf16) (v5 : Vec Ideal S448x256 .f32)
    (j : S448x256.Idx) :
    k1_pay3 v0 v2 v5 j = (∑ k : Fin 1024, v2 (ix2 (j 0) k) * v0 (ix2 k (j 1))) + v5 j := by
  unfold k1_pay3
  simp only [shapeCast_self]
  show (FloatOps.matmul (F := Ideal) (φ₁ := .bf16) (φ₂ := .bf16) dot_S448x1024_S1024x256_S448x256_1_0_0_1_n_n none v2 v0
    (constant (F := Ideal) S448x256 .f32 0x00000000#32) j : EReal) + (v5 j : EReal) = _
  congr 1
  obtain ⟨a, b, rfl⟩ : ∃ (a : Fin 448) (b : Fin 256), j = ix2 a b := ⟨j 0, j 1, eq_ix2 j⟩
  refine (Ideal.matmul_plain_apply (φ₁ := .bf16) (φ₂ := .bf16) none v2 v0 (constant (F := Ideal) S448x256 .f32 0x00000000#32) a b).trans ?_
  show Ideal.ofBits .f32 0x00000000#32 + _ = _
  rw [bits_zero, EReal.coe_zero, zero_add]

/-- Six planes' product and biases at an element. -/
theorem pay384 (v0 : Vec Ideal S1024x256 .bf16) (v2 : Vec Ideal S384x1024 .bf16) (v5 : Vec Ideal S384x256 .f32)
    (j : S384x256.Idx) :
    k1_pay11 v0 v2 v5 j = (∑ k : Fin 1024, v2 (ix2 (j 0) k) * v0 (ix2 k (j 1))) + v5 j := by
  unfold k1_pay11
  simp only [shapeCast_self]
  show (FloatOps.matmul (F := Ideal) (φ₁ := .bf16) (φ₂ := .bf16) dot_S384x1024_S1024x256_S384x256_1_0_0_1_n_n none v2 v0
    (constant (F := Ideal) S384x256 .f32 0x00000000#32) j : EReal) + (v5 j : EReal) = _
  congr 1
  obtain ⟨a, b, rfl⟩ : ∃ (a : Fin 384) (b : Fin 256), j = ix2 a b := ⟨j 0, j 1, eq_ix2 j⟩
  refine (Ideal.matmul_plain_apply (φ₁ := .bf16) (φ₂ := .bf16) none v2 v0 (constant (F := Ideal) S384x256 .f32 0x00000000#32) a b).trans ?_
  show Ideal.ofBits .f32 0x00000000#32 + _ = _
  rw [bits_zero, EReal.coe_zero, zero_add]

/-- All the planes' rows: the weights' rows times the activations' columns from `o`, plus the biases. -/
def rowsG (o : ℕ) (ho : o + 256 ≤ 512) (x1 : Vec Ideal S1024x512 .bf16) (x2 : Vec Ideal S3008x1024 .bf16)
    (x3 : Vec Ideal S3008x256 .f32) : Vec Ideal S3008x256 .f32 := fun y =>
  (∑ k : Fin 1024, x2 (ix2 (n0 := 3008) (n1 := 1024) (y 0) k)
    * x1 (ix2 (n0 := 1024) (n1 := 512) k ⟨o + (y 1).val, by have : (y 1).val < 256 := (y 1).isLt; omega⟩)) + x3 y

variable (arg3 : Memref sig .tc .vmem S1024x512 .bf16) (harg3 : arg3.IsWhole)
  (arg4 : Memref sig .tc .vmem S3008x1024 .bf16) (harg4 : arg4.IsWhole) (arg5 : Memref sig .tc .vmem S3008x256 .f32)
  (harg5 : arg5.IsWhole) (x1 : Vec Ideal S1024x512 .bf16) (x2 : Vec Ideal S3008x1024 .bf16) (x3 : Vec Ideal S3008x256 .f32)

/-- A piece of seven planes holds those rows. -/
theorem piece448 (o n : ℕ) (ho : o + 256 ≤ 512) (iH : ∀ a, (![0, o] : Fin 2 → ℕ) a + S1024x256.size a ≤ S1024x512.size a)
    (iW : ∀ a, (![n, 0] : Fin 2 → ℕ) a + S448x1024.size a ≤ S3008x1024.size a)
    (iB : ∀ a, (![n, 0] : Fin 2 → ℕ) a + S448x256.size a ≤ S3008x256.size a) (x : S448x256.Idx) :
    k1_pay3 (View.readAt (Elt Ideal) arg3.view (Rect.unit (s := S1024x512) ![0, o] S1024x256.size iH).toLoadRect (harg3.unread x1))
      (View.readAt (Elt Ideal) arg4.view (Rect.unit (s := S3008x1024) ![n, 0] S448x1024.size iW).toLoadRect (harg4.unread x2))
      (View.readAt (Elt Ideal) arg5.view (Rect.unit (s := S3008x256) ![n, 0] S448x256.size iB).toLoadRect (harg5.unread x3)) x
    = rowsG o ho x1 x2 x3 ((Rect.unit (s := S3008x256) ![n, 0] S448x256.size iB).emb x) := by
  rw [pay448]
  unfold rowsG
  refine congrArg₂ (· + ·) (Finset.sum_congr rfl fun k _ => congrArg₂ (· * ·) ?_ ?_) ?_
  · refine (harg4.readAt_unread x2 _ _).trans (congrArg x2 ?_)
    funext a; apply Fin.ext
    match a with
    | ⟨0, _⟩ => rfl
    | ⟨1, _⟩ => show 0 + 1 * k.val = k.val; omega
  · refine (harg3.readAt_unread x1 _ _).trans (congrArg x1 ?_)
    funext a; apply Fin.ext
    match a with
    | ⟨0, _⟩ => show 0 + 1 * k.val = k.val; omega
    | ⟨1, _⟩ => show o + 1 * (x 1).val = o + (0 + 1 * (x 1).val); omega
  · exact harg5.readAt_unread x3 _ _

/-- A piece of six planes holds those rows. -/
theorem piece384 (o n : ℕ) (ho : o + 256 ≤ 512) (iH : ∀ a, (![0, o] : Fin 2 → ℕ) a + S1024x256.size a ≤ S1024x512.size a)
    (iW : ∀ a, (![n, 0] : Fin 2 → ℕ) a + S384x1024.size a ≤ S3008x1024.size a)
    (iB : ∀ a, (![n, 0] : Fin 2 → ℕ) a + S384x256.size a ≤ S3008x256.size a) (x : S384x256.Idx) :
    k1_pay11 (View.readAt (Elt Ideal) arg3.view (Rect.unit (s := S1024x512) ![0, o] S1024x256.size iH).toLoadRect (harg3.unread x1))
      (View.readAt (Elt Ideal) arg4.view (Rect.unit (s := S3008x1024) ![n, 0] S384x1024.size iW).toLoadRect (harg4.unread x2))
      (View.readAt (Elt Ideal) arg5.view (Rect.unit (s := S3008x256) ![n, 0] S384x256.size iB).toLoadRect (harg5.unread x3)) x
    = rowsG o ho x1 x2 x3 ((Rect.unit (s := S3008x256) ![n, 0] S384x256.size iB).emb x) := by
  rw [pay384]
  unfold rowsG
  refine congrArg₂ (· + ·) (Finset.sum_congr rfl fun k _ => congrArg₂ (· * ·) ?_ ?_) ?_
  · refine (harg4.readAt_unread x2 _ _).trans (congrArg x2 ?_)
    funext a; apply Fin.ext
    match a with
    | ⟨0, _⟩ => rfl
    | ⟨1, _⟩ => show 0 + 1 * k.val = k.val; omega
  · refine (harg3.readAt_unread x1 _ _).trans (congrArg x1 ?_)
    funext a; apply Fin.ext
    match a with
    | ⟨0, _⟩ => show 0 + 1 * k.val = k.val; omega
    | ⟨1, _⟩ => show o + 1 * (x 1).val = o + (0 + 1 * (x 1).val); omega
  · exact harg5.readAt_unread x3 _ _

/-- Every row of the scratch lies in one of the seven pieces. -/
theorem rows_cover (y : S3008x256.Idx) {n m : ℕ} (i : ∀ a, (![n, 0] : Fin 2 → ℕ) a + (![m, 256] : Fin 2 → ℕ) a ≤ S3008x256.size a)
    (h0 : n ≤ (y 0).val) (h1 : (y 0).val < n + m) : y ∈ (Rect.unit (s := S3008x256) ![n, 0] ![m, 256] i).set := by
  rw [Rect.mem_set_unit]
  intro a
  match a with
  | ⟨0, _⟩ => exact ⟨h0, h1⟩
  | ⟨1, _⟩ => exact ⟨Nat.zero_le _, by have : (y 1).val < 256 := (y 1).isLt; show (y 1).val < 0 + 256; omega⟩

variable (c : Dev nD)

/-- The first half's scratch holds the rows with the activations' columns from 0. -/
theorem canonA (y : S3008x256.Idx) :
    View.canon (kernelRun1_A.sl.HS0_7 c arg3 harg3 arg4 harg4 arg5 harg5 x1 x2 x3) y = rowsG 0 (by omega) x1 x2 x3 y := by
  refine View.canon_apply_of_pieces (rowsG 0 (by omega) x1 x2 x3) _ ?_ y ?_
  · intro p hp
    unfold kernelRun1_A.sl.HS0_7 at hp
    simp only [List.mem_cons, List.not_mem_nil, or_false] at hp
    rcases hp with rfl | rfl | rfl | rfl | rfl | rfl | rfl <;> intro x
    · exact piece384 arg3 harg3 arg4 harg4 arg5 harg5 x1 x2 x3 0 2624 _ _ _ _ x
    · exact piece384 arg3 harg3 arg4 harg4 arg5 harg5 x1 x2 x3 0 2240 _ _ _ _ x
    · exact piece448 arg3 harg3 arg4 harg4 arg5 harg5 x1 x2 x3 0 1792 _ _ _ _ x
    · exact piece448 arg3 harg3 arg4 harg4 arg5 harg5 x1 x2 x3 0 1344 _ _ _ _ x
    · exact piece448 arg3 harg3 arg4 harg4 arg5 harg5 x1 x2 x3 0 896 _ _ _ _ x
    · exact piece448 arg3 harg3 arg4 harg4 arg5 harg5 x1 x2 x3 0 448 _ _ _ _ x
    · exact piece448 arg3 harg3 arg4 harg4 arg5 harg5 x1 x2 x3 0 0 _ _ _ _ x
  · have hy : (y 0).val < 3008 := (y 0).isLt
    unfold kernelRun1_A.sl.HS0_7
    simp only [List.mem_cons, List.not_mem_nil, or_false, exists_eq_or_imp, exists_eq_left]
    by_cases h1 : 2624 ≤ (y 0).val; · exact Or.inl (rows_cover y _ h1 (by omega))
    by_cases h2 : 2240 ≤ (y 0).val; · exact Or.inr (Or.inl (rows_cover y _ h2 (by omega)))
    by_cases h3 : 1792 ≤ (y 0).val; · exact Or.inr (Or.inr (Or.inl (rows_cover y _ h3 (by omega))))
    by_cases h4 : 1344 ≤ (y 0).val; · exact Or.inr (Or.inr (Or.inr (Or.inl (rows_cover y _ h4 (by omega)))))
    by_cases h5 : 896 ≤ (y 0).val; · exact Or.inr (Or.inr (Or.inr (Or.inr (Or.inl (rows_cover y _ h5 (by omega))))))
    by_cases h6 : 448 ≤ (y 0).val
    · exact Or.inr (Or.inr (Or.inr (Or.inr (Or.inr (Or.inl (rows_cover y _ h6 (by omega)))))))
    · exact Or.inr (Or.inr (Or.inr (Or.inr (Or.inr (Or.inr (rows_cover y _ (Nat.zero_le _) (by omega)))))))

/-- The second half's scratch holds the rows with the activations' columns from 256. -/
theorem canonB (y : S3008x256.Idx) :
    View.canon (kernelRun1_A.sl.HS1_7 c arg3 harg3 arg4 harg4 arg5 harg5 x1 x2 x3) y = rowsG 256 (by omega) x1 x2 x3 y := by
  refine View.canon_apply_of_pieces (rowsG 256 (by omega) x1 x2 x3) _ ?_ y ?_
  · intro p hp
    unfold kernelRun1_A.sl.HS1_7 at hp
    simp only [List.mem_cons, List.not_mem_nil, or_false] at hp
    rcases hp with rfl | rfl | rfl | rfl | rfl | rfl | rfl <;> intro x
    · exact piece384 arg3 harg3 arg4 harg4 arg5 harg5 x1 x2 x3 256 2624 _ _ _ _ x
    · exact piece384 arg3 harg3 arg4 harg4 arg5 harg5 x1 x2 x3 256 2240 _ _ _ _ x
    · exact piece448 arg3 harg3 arg4 harg4 arg5 harg5 x1 x2 x3 256 1792 _ _ _ _ x
    · exact piece448 arg3 harg3 arg4 harg4 arg5 harg5 x1 x2 x3 256 1344 _ _ _ _ x
    · exact piece448 arg3 harg3 arg4 harg4 arg5 harg5 x1 x2 x3 256 896 _ _ _ _ x
    · exact piece448 arg3 harg3 arg4 harg4 arg5 harg5 x1 x2 x3 256 448 _ _ _ _ x
    · exact piece448 arg3 harg3 arg4 harg4 arg5 harg5 x1 x2 x3 256 0 _ _ _ _ x
  · have hy : (y 0).val < 3008 := (y 0).isLt
    unfold kernelRun1_A.sl.HS1_7
    simp only [List.mem_cons, List.not_mem_nil, or_false, exists_eq_or_imp, exists_eq_left]
    by_cases h1 : 2624 ≤ (y 0).val; · exact Or.inl (rows_cover y _ h1 (by omega))
    by_cases h2 : 2240 ≤ (y 0).val; · exact Or.inr (Or.inl (rows_cover y _ h2 (by omega)))
    by_cases h3 : 1792 ≤ (y 0).val; · exact Or.inr (Or.inr (Or.inl (rows_cover y _ h3 (by omega))))
    by_cases h4 : 1344 ≤ (y 0).val; · exact Or.inr (Or.inr (Or.inr (Or.inl (rows_cover y _ h4 (by omega)))))
    by_cases h5 : 896 ≤ (y 0).val; · exact Or.inr (Or.inr (Or.inr (Or.inr (Or.inl (rows_cover y _ h5 (by omega))))))
    by_cases h6 : 448 ≤ (y 0).val
    · exact Or.inr (Or.inr (Or.inr (Or.inr (Or.inr (Or.inl (rows_cover y _ h6 (by omega)))))))
    · exact Or.inr (Or.inr (Or.inr (Or.inr (Or.inr (Or.inr (rows_cover y _ (Nat.zero_le _) (by omega)))))))

/-- Row `a` of plane `j`. -/
def rowOf (j : ℕ) (a : Fin 64) : Fin 3008 := ⟨64 * (j % 47) + a.val, by have := a.isLt; omega⟩

/-- A plane of the first half at an element. -/
theorem planesA_apply (arg8 : Memref sig .tc .vmem S3008x256 .f32) (j : ℕ) (a : Fin 64) (l : Fin 256) :
    planesA c arg3 harg3 arg4 harg4 arg5 harg5 arg8 x1 x2 x3 j (ix2 a l)
      = rowsG 0 (by omega) x1 x2 x3 (ix2 (rowOf j a) l) := by
  unfold planesA planeOf
  rw [View.readCov_eq_canon']
  refine (canonA arg3 harg3 arg4 harg4 arg5 harg5 x1 x2 x3 c _).trans (congrArg _ ?_)
  funext b; apply Fin.ext
  match b with
  | ⟨0, _⟩ => show 64 * (j % 47) + 1 * a.val = 64 * (j % 47) + a.val; omega
  | ⟨1, _⟩ => show 0 + 1 * l.val = l.val; omega

/-- A plane of the second half at an element. -/
theorem planesB_apply (arg8 : Memref sig .tc .vmem S3008x256 .f32) (j : ℕ) (a : Fin 64) (l : Fin 256) :
    planesB c arg3 harg3 arg4 harg4 arg5 harg5 arg8 x1 x2 x3 j (ix2 a l)
      = rowsG 256 (by omega) x1 x2 x3 (ix2 (rowOf j a) l) := by
  unfold planesB planeOf
  rw [View.readCov_eq_canon']
  refine (canonB arg3 harg3 arg4 harg4 arg5 harg5 x1 x2 x3 c _).trans (congrArg _ ?_)
  funext b; apply Fin.ext
  match b with
  | ⟨0, _⟩ => show 64 * (j % 47) + 1 * a.val = 64 * (j % 47) + a.val; omega
  | ⟨1, _⟩ => show 0 + 1 * l.val = l.val; omega

end Cert.Proof.Planes

end
-- ==== Proof.SplineReal.lean ====
/- The rational-quadratic spline over the real numbers: sixteen bins between −3 and 3, their widths, heights and slopes
   from 47 real parameters. -/
module

public import Idealize.ShloMosaic.Lib.IdealHost

@[expose] public section

noncomputable section

namespace Cert.Proof.SplineReal

open Finset

/-- The sum of the exponentials of the sixteen parameters from the `o`-th. -/
def expSum (q : ℕ → ℝ) (o : ℕ) : ℝ := ∑ k ∈ range 16, Real.exp (q (o + k))
/-- Bin `k`'s width (`o = 0`) or height (`o = 16`): at least 6/1000, the rest shared out by the exponentials. -/
def bin (q : ℕ → ℝ) (o k : ℕ) : ℝ := 3 / 500 + Real.exp (q (o + k)) * (738 / 125 * (1 / expSum q o))
/-- The `k`-th knot. -/
def knot (q : ℕ → ℝ) (o k : ℕ) : ℝ := -3 + ∑ j ∈ range k, bin q o j
/-- The slope at the `k`-th knot: one at both ends. -/
def slope (q : ℕ → ℝ) (k : ℕ) : ℝ :=
  if k = 0 ∨ 16 ≤ k then 1 else 1 / 1000 + Real.log (1 + Real.exp (q (32 + (k - 1))))
/-- The bin an input lies in: how many inner knots are not above it. -/
def binOf (q : ℕ → ℝ) (t : ℝ) : ℕ := ((range 15).filter fun k => knot q 0 (k + 1) ≤ t).card

theorem expSum_pos (q : ℕ → ℝ) (o : ℕ) : 0 < expSum q o :=
  sum_pos (fun _ _ => Real.exp_pos _) ⟨0, by simp⟩

theorem bin_pos (q : ℕ → ℝ) (o k : ℕ) : 0 < bin q o k := by
  have h := expSum_pos q o
  unfold bin; positivity

theorem knot_succ (q : ℕ → ℝ) (o k : ℕ) : knot q o (k + 1) = knot q o k + bin q o k := by
  unfold knot; rw [sum_range_succ]; ring

theorem knot_strictMono (q : ℕ → ℝ) (o : ℕ) : StrictMono (knot q o) :=
  strictMono_nat_of_lt_succ fun k => by rw [knot_succ]; linarith [bin_pos q o k]

theorem knot_zero (q : ℕ → ℝ) (o : ℕ) : knot q o 0 = -3 := by simp [knot]

/-- The last knot is 3. -/
theorem knot_sixteen (q : ℕ → ℝ) (o : ℕ) : knot q o 16 = 3 := by
  have h := (expSum_pos q o).ne'
  unfold knot bin
  rw [sum_add_distrib, ← sum_mul]
  have e : ∑ j ∈ range 16, Real.exp (q (o + j)) = expSum q o := rfl
  rw [e, sum_const, card_range]
  field_simp; norm_num

theorem slope_pos (q : ℕ → ℝ) (k : ℕ) : 0 < slope q k := by
  unfold slope
  split
  · norm_num
  · have : 0 < Real.log (1 + Real.exp (q (32 + (k - 1)))) := Real.log_pos (by linarith [Real.exp_pos (q (32 + (k - 1)))])
    linarith

theorem slope_zero (q : ℕ → ℝ) : slope q 0 = 1 := by simp [slope]
theorem slope_sixteen (q : ℕ → ℝ) : slope q 16 = 1 := by simp [slope]
theorem slope_inner (q : ℕ → ℝ) {k : ℕ} (h : k < 15) :
    slope q (k + 1) = 1 / 1000 + Real.log (1 + Real.exp (q (32 + k))) := by
  unfold slope; rw [if_neg (by omega)]; rfl

/-- An inner knot is not above the input exactly when it is among the bin's number of first ones. -/
theorem knot_le_iff (q : ℕ → ℝ) (t : ℝ) {k : ℕ} (hk : k < 15) : knot q 0 (k + 1) ≤ t ↔ k < binOf q t := by
  have key : ∃ b ≤ 15, (range 15).filter (fun k => knot q 0 (k + 1) ≤ t) = range b := by
    induction (15 : ℕ) with
    | zero => exact ⟨0, le_refl _, by simp⟩
    | succ n ih =>
      obtain ⟨b, hb, e⟩ := ih
      by_cases h : knot q 0 (n + 1) ≤ t
      · refine ⟨n + 1, le_refl _, ?_⟩
        apply filter_true_of_mem
        intro j hj
        rw [mem_range] at hj
        exact ((knot_strictMono q 0).monotone (by omega)).trans h
      · refine ⟨b, by omega, ?_⟩
        rw [range_add_one, filter_insert, if_neg h, e]
  obtain ⟨b, hb, e⟩ := key
  have hbin : binOf q t = b := by unfold binOf; rw [e, card_range]
  rw [hbin]
  have : k ∈ (range 15).filter (fun k => knot q 0 (k + 1) ≤ t) ↔ k ∈ range b := by rw [e]
  simpa [hk] using this

theorem binOf_le (q : ℕ → ℝ) (t : ℝ) : binOf q t ≤ 15 := by
  unfold binOf; exact (card_filter_le _ _).trans (by simp)

/-- The input lies before the knot after bin `n` exactly when its bin is at most `n`. -/
theorem lt_knot_iff (q : ℕ → ℝ) (t : ℝ) {n : ℕ} (hn : n < 15) : t < knot q 0 (n + 1) ↔ binOf q t ≤ n := by
  rw [← not_le, knot_le_iff q t hn, not_lt]

/-- An input between −3 and 3 lies between its bin's knots. -/
theorem knot_binOf_le (q : ℕ → ℝ) {t : ℝ} (h : -3 ≤ t) : knot q 0 (binOf q t) ≤ t := by
  rcases Nat.eq_zero_or_pos (binOf q t) with e | e
  · rw [e, knot_zero]; exact h
  · obtain ⟨b, hb⟩ : ∃ b, binOf q t = b + 1 := ⟨binOf q t - 1, by omega⟩
    have := binOf_le q t
    rw [hb]; exact (knot_le_iff q t (by omega)).mpr (by omega)

theorem le_knot_binOf (q : ℕ → ℝ) {t : ℝ} (h : t ≤ 3) : t ≤ knot q 0 (binOf q t + 1) := by
  have := binOf_le q t
  rcases Nat.lt_or_ge (binOf q t) 15 with e | e
  · exact ((lt_knot_iff q t e).mpr (le_refl _)).le
  · have : binOf q t = 15 := by omega
    rw [this, knot_sixteen]; exact h

/-- The bin's mean slope. -/
def mean (q : ℕ → ℝ) (t : ℝ) : ℝ := bin q 16 (binOf q t) * (1 / bin q 0 (binOf q t))
/-- The position within the bin. -/
def pos (q : ℕ → ℝ) (t : ℝ) : ℝ := (t - knot q 0 (binOf q t)) * (1 / bin q 0 (binOf q t))
/-- The rational function's denominator. -/
def den (q : ℕ → ℝ) (t : ℝ) : ℝ :=
  mean q t + (slope q (binOf q t) + slope q (binOf q t + 1) - 2 * mean q t) * (pos q t * (1 - pos q t))
/-- The spline's value. -/
def val (q : ℕ → ℝ) (t : ℝ) : ℝ :=
  knot q 16 (binOf q t) + bin q 16 (binOf q t) * (mean q t * (pos q t * pos q t)
    + slope q (binOf q t) * (pos q t * (1 - pos q t))) * (1 / den q t)
/-- The spline's slope. -/
def der (q : ℕ → ℝ) (t : ℝ) : ℝ :=
  mean q t * mean q t * (slope q (binOf q t + 1) * (pos q t * pos q t) + 2 * mean q t * (pos q t * (1 - pos q t))
    + slope q (binOf q t) * (1 - pos q t) * (1 - pos q t)) * (1 / den q t * (1 / den q t))

theorem mean_pos (q : ℕ → ℝ) (t : ℝ) : 0 < mean q t := by
  unfold mean
  have h0 := bin_pos q 0 (binOf q t)
  have h1 := bin_pos q 16 (binOf q t)
  positivity

/-- The denominator is positive for an input between −3 and 3. -/
theorem den_pos (q : ℕ → ℝ) {t : ℝ} (h : -3 ≤ t) (h' : t ≤ 3) : 0 < den q t := by
  have hw := bin_pos q 0 (binOf q t)
  have h1 := knot_binOf_le q h
  have h2 := le_knot_binOf q h'
  rw [knot_succ] at h2
  have p0 : 0 ≤ pos q t := by unfold pos; exact mul_nonneg (by linarith) (by positivity)
  have p1 : pos q t ≤ 1 := by
    unfold pos; rw [mul_one_div, div_le_one hw]; linarith
  have hm := mean_pos q t
  have s0 := slope_pos q (binOf q t)
  have s1 := slope_pos q (binOf q t + 1)
  have hq : 0 ≤ pos q t * (1 - pos q t) := mul_nonneg p0 (by linarith)
  have hq' : pos q t * (1 - pos q t) ≤ 1 / 4 := by nlinarith [sq_nonneg (pos q t - 1 / 2)]
  unfold den
  nlinarith [mul_nonneg (add_pos s0 s1).le hq, mul_nonneg hm.le (sub_nonneg.mpr hq')]

end Cert.Proof.SplineReal

end
-- ==== Proof.ChainIdeal.lean ====
/- The chain of `Proof/Chain.lean` at one element, over the extended reals: with real parameters it is the
   rational-quadratic spline of `Proof/SplineReal.lean`. -/
module

public import proofs.«01_k».proof.Proof.Chain
public import proofs.«01_k».proof.Proof.SplineReal
public import proofs.«01_k».proof.Proof.Consts

@[expose] public section

noncomputable section

namespace Cert.Proof.ChainIdeal

open Idealize.ShloMosaic Cert.KernelIdeal Cert.Proof.Chain Cert.Proof.SplineReal Cert.Proof.Consts

/-- The spline's value at any input with the real parameters `q`: the input itself outside. -/
def outY (q : ℕ → ℝ) (x : EReal) : EReal :=
  if ((-3 : ℝ) : EReal) < x ∧ x < ((3 : ℝ) : EReal) then ((val q (clamp x) : ℝ) : EReal) else x
/-- The logarithm of the spline's slope: zero outside. -/
def outL (q : ℕ → ℝ) (x : EReal) : EReal :=
  if ((-3 : ℝ) : EReal) < x ∧ x < ((3 : ℝ) : EReal) then Ideal.log ((der q (clamp x) : ℝ) : EReal) else ((0 : ℝ) : EReal)

variable (P : ℕ → HV Ideal) (x : HV Ideal) (i : S64x256.Idx) (q : ℕ → ℝ)

theorem cst_apply (b : BitVec 32) : (cst b : HV Ideal) i = Ideal.ofBits .f32 b := rfl
theorem minW_apply : (nam "min_width" 0x3BC49BA6#32 : HV Ideal) i = ((3 / 500 : ℝ) : EReal) := rfl
theorem freeW_apply : (nam "free_width" 0x40BCED91#32 : HV Ideal) i = ((738 / 125 : ℝ) : EReal) := rfl
theorem minS_apply : (nam "min_slope" 0x3A83126F#32 : HV Ideal) i = ((1 / 1000 : ℝ) : EReal) := rfl

theorem clampV_apply : clampV x i = ((clamp (x i) : ℝ) : EReal) := by
  show min ((cst 0x40400000#32 : HV Ideal) i) (max ((cst 0xC0400000#32 : HV Ideal) i) (x i)) = _
  rw [coe_clamp, cst_apply, cst_apply, bits_three, bits_neg_three]

variable (hP : ∀ j, P j i = ((q j : ℝ) : EReal))

include hP

theorem sumV_apply (o n : ℕ) : sumV P o n i = ((∑ k ∈ Finset.range (n + 1), Real.exp (q (o + k)) : ℝ) : EReal) := by
  induction n with
  | zero => show Ideal.exp (P o i) = _; rw [hP]; simp [exp_real]
  | succ n ih =>
    rw [Finset.sum_range_succ, EReal.coe_add, ← ih]
    show sumV P o n i + Ideal.exp (P (o + (n + 1)) i) = _
    rw [hP, exp_real]

theorem binV_apply (o k : ℕ) : binV P o k i = ((bin q o k : ℝ) : EReal) := by
  show (nam "min_width" 0x3BC49BA6#32 : HV Ideal) i
    + Ideal.exp (P (o + k) i) * Ideal.div ((nam "free_width" 0x40BCED91#32 : HV Ideal) i) (sumV P o 15 i) = _
  rw [minW_apply, freeW_apply, hP, exp_real, sumV_apply P i q hP]
  show _ + _ * Ideal.div _ ((expSum q o : ℝ) : EReal) = _
  rw [div_real (expSum_pos q o).ne', ← EReal.coe_mul, ← EReal.coe_add]; rfl

theorem slopeV_apply {k : ℕ} (hk : k < 15) : slopeV P k i = ((slope q (k + 1) : ℝ) : EReal) := by
  show (nam "min_slope" 0x3A83126F#32 : HV Ideal) i
    + Ideal.log ((cst 0x3F800000#32 : HV Ideal) i + Ideal.exp (P (32 + k) i)) = _
  rw [minS_apply, cst_apply, bits_one, hP, exp_real, ← EReal.coe_add,
    log_real (by linarith [Real.exp_pos (q (32 + k))]), ← EReal.coe_add, slope_inner q hk]

omit hP in
theorem select_ofBool {α : Type} (b : Bool) (u v : α) : Scalar.select (BitVec.ofBool b) u v = if b then u else v := by
  cases b <;> rfl

omit hP in
theorem cmp_olt_real (a b : ℝ) : Ideal.cmp .olt (a : EReal) (b : EReal) = BitVec.ofBool (decide (a < b)) := by
  show BitVec.ofBool (decide ((a : EReal) < (b : EReal))) = _
  congr 1; simp

/-- What the state after bins 0 to `n` holds at the element, the input clamped to `t`. -/
structure Good (t : ℝ) (n : ℕ) (s : St Ideal) : Prop where
  cx : s.cx i = ((knot q 0 (n + 1) : ℝ) : EReal)
  cy : s.cy i = ((knot q 16 (n + 1) : ℝ) : EReal)
  dp : s.dp i = ((slope q (n + 1) : ℝ) : EReal)
  lt : s.lt i = BitVec.ofBool (decide (binOf q t ≤ n))
  ax : binOf q t ≤ n → s.ax i = ((knot q 0 (binOf q t) : ℝ) : EReal)
  ay : binOf q t ≤ n → s.ay i = ((knot q 16 (binOf q t) : ℝ) : EReal)
  aw : binOf q t ≤ n → s.aw i = ((bin q 0 (binOf q t) : ℝ) : EReal)
  ah : binOf q t ≤ n → s.ah i = ((bin q 16 (binOf q t) : ℝ) : EReal)
  a0 : binOf q t ≤ n → s.a0 i = ((slope q (binOf q t) : ℝ) : EReal)
  a1 : binOf q t ≤ n → s.a1 i = ((slope q (binOf q t + 1) : ℝ) : EReal)

variable (xc : HV Ideal) (t : ℝ) (hx : xc i = ((t : ℝ) : EReal))
include hx

theorem firstKnot_apply (o : ℕ) : subf (binV P o 0) (cst 0x40400000#32) i = ((knot q o 1 : ℝ) : EReal) := by
  show binV P o 0 i - (cst 0x40400000#32 : HV Ideal) i = _
  rw [binV_apply P i q hP, cst_apply, bits_three, ← EReal.coe_sub,
    show knot q o 1 = _ from knot_succ q o 0, knot_zero]
  congr 1; ring

theorem good_first : Good i q t 0 (first P xc) := by
  have hlt : cmpf .olt xc (subf (binV P 0 0) (cst 0x40400000#32)) i = BitVec.ofBool (decide (binOf q t ≤ 0)) := by
    show Ideal.cmp .olt (xc i) (subf (binV P 0 0) (cst 0x40400000#32) i) = _
    rw [firstKnot_apply P i q hP xc t hx, hx, cmp_olt_real]
    congr 2; exact propext (lt_knot_iff q t (by norm_num))
  have hsel : ∀ u v : HV Ideal, binOf q t ≤ 0 →
      select (cmpf .olt xc (subf (binV P 0 0) (cst 0x40400000#32))) u v i = u i := by
    intro u v h
    show Scalar.select (cmpf .olt xc (subf (binV P 0 0) (cst 0x40400000#32)) i) (u i) (v i) = _
    rw [hlt, select_ofBool, decide_eq_true h]; rfl
  refine ⟨firstKnot_apply P i q hP xc t hx 0, firstKnot_apply P i q hP xc t hx 16, slopeV_apply P i q hP (by norm_num), hlt,
    ?_, ?_, ?_, ?_, ?_, ?_⟩ <;> intro h <;> refine (hsel _ _ h).trans ?_ <;> rw [show binOf q t = 0 by omega]
  · rw [cst_apply, bits_neg_three, knot_zero]
  · rw [cst_apply, bits_neg_three, knot_zero]
  · exact binV_apply P i q hP 0 0
  · exact binV_apply P i q hP 16 0
  · rw [cst_apply, bits_one, slope_zero]
  · exact slopeV_apply P i q hP (by norm_num)

theorem good_step {n : ℕ} (hn : n + 1 < 15) {s : St Ideal} (g : Good i q t n s) : Good i q t (n + 1) (step P xc (n + 1) s) := by
  have hcx : addf s.cx (binV P 0 (n + 1)) i = ((knot q 0 (n + 1 + 1) : ℝ) : EReal) := by
    show s.cx i + binV P 0 (n + 1) i = _
    rw [g.cx, binV_apply P i q hP, ← EReal.coe_add, ← knot_succ]
  have hcy : addf s.cy (binV P 16 (n + 1)) i = ((knot q 16 (n + 1 + 1) : ℝ) : EReal) := by
    show s.cy i + binV P 16 (n + 1) i = _
    rw [g.cy, binV_apply P i q hP, ← EReal.coe_add, ← knot_succ]
  have hlt : cmpf .olt xc (addf s.cx (binV P 0 (n + 1))) i = BitVec.ofBool (decide (binOf q t ≤ n + 1)) := by
    show Ideal.cmp .olt (xc i) (addf s.cx (binV P 0 (n + 1)) i) = _
    rw [hcx, hx, cmp_olt_real]
    congr 2; exact propext (lt_knot_iff q t hn)
  have hs : selV P xc (n + 1) s i = BitVec.ofBool (decide (binOf q t = n + 1)) := by
    show cmpf .olt xc (addf s.cx (binV P 0 (n + 1))) i &&& (s.lt i ^^^ 1#1) = _
    rw [hlt, g.lt]
    by_cases h1 : binOf q t ≤ n
    · rw [decide_eq_true h1, decide_eq_true (show binOf q t ≤ n + 1 by omega),
        decide_eq_false (show ¬ binOf q t = n + 1 by omega)]; rfl
    · by_cases h2 : binOf q t = n + 1
      · rw [decide_eq_false h1, decide_eq_true (show binOf q t ≤ n + 1 by omega), decide_eq_true h2]; rfl
      · rw [decide_eq_false h1, decide_eq_false (show ¬ binOf q t ≤ n + 1 by omega), decide_eq_false h2]; rfl
  have hsel : ∀ u v : HV Ideal, select (selV P xc (n + 1) s) u v i = if binOf q t = n + 1 then u i else v i := by
    intro u v
    show Scalar.select (selV P xc (n + 1) s i) (u i) (v i) = _
    rw [hs, select_ofBool]; simp
  refine ⟨hcx, hcy, slopeV_apply P i q hP hn, hlt, ?_, ?_, ?_, ?_, ?_, ?_⟩ <;> intro h <;> refine (hsel _ _).trans ?_ <;>
    split <;> rename_i e
  · rw [e]; exact g.cx
  · exact g.ax (by omega)
  · rw [e]; exact g.cy
  · exact g.ay (by omega)
  · rw [e]; exact binV_apply P i q hP 0 _
  · exact g.aw (by omega)
  · rw [e]; exact binV_apply P i q hP 16 _
  · exact g.ah (by omega)
  · rw [e]; exact g.dp
  · exact g.a0 (by omega)
  · rw [e]; exact slopeV_apply P i q hP hn
  · exact g.a1 (by omega)

theorem good_chain {n : ℕ} (hn : n < 15) : Good i q t n (chain P xc n) := by
  induction n with
  | zero => exact good_first P i q hP xc t hx
  | succ n ih => exact good_step P i q hP xc t hx hn (ih (by omega))

/-- What the chosen bin's numbers are at the element. -/
structure GoodAcc (t : ℝ) (a : Acc Ideal) : Prop where
  ax : a.ax i = ((knot q 0 (binOf q t) : ℝ) : EReal)
  ay : a.ay i = ((knot q 16 (binOf q t) : ℝ) : EReal)
  aw : a.aw i = ((bin q 0 (binOf q t) : ℝ) : EReal)
  ah : a.ah i = ((bin q 16 (binOf q t) : ℝ) : EReal)
  a0 : a.a0 i = ((slope q (binOf q t) : ℝ) : EReal)
  a1 : a.a1 i = ((slope q (binOf q t + 1) : ℝ) : EReal)

theorem good_last : GoodAcc i q t (last P (chain P xc 14)) := by
  have g := good_chain P i q hP xc t hx (n := 14) (by norm_num)
  have hb := binOf_le q t
  have hs : xori (chain P xc 14).lt (constantI S64x256 1 1#1) i = BitVec.ofBool (decide (binOf q t = 15)) := by
    show (chain P xc 14).lt i ^^^ 1#1 = _
    rw [g.lt]
    by_cases h1 : binOf q t ≤ 14
    · rw [decide_eq_true h1, decide_eq_false (show ¬ binOf q t = 15 by omega)]; rfl
    · rw [decide_eq_false h1, decide_eq_true (show binOf q t = 15 by omega)]; rfl
  have hsel : ∀ u v : HV Ideal, select (xori (chain P xc 14).lt (constantI S64x256 1 1#1)) u v i
      = if binOf q t = 15 then u i else v i := by
    intro u v
    show Scalar.select (xori (chain P xc 14).lt (constantI S64x256 1 1#1) i) (u i) (v i) = _
    rw [hs, select_ofBool]; simp
  refine ⟨?_, ?_, ?_, ?_, ?_, ?_⟩ <;> refine (hsel _ _).trans ?_ <;> split <;> rename_i e
  · rw [e]; exact g.cx
  · exact g.ax (by omega)
  · rw [e]; exact g.cy
  · exact g.ay (by omega)
  · rw [e]; exact binV_apply P i q hP 0 _
  · exact g.aw (by omega)
  · rw [e]; exact binV_apply P i q hP 16 _
  · exact g.ah (by omega)
  · rw [e]; exact g.dp
  · exact g.a0 (by omega)
  · rw [e, cst_apply, bits_one, slope_sixteen]
  · exact g.a1 (by omega)

omit hP

section Final
variable {a : Acc Ideal} (g : GoodAcc i q t a)
include g

omit hx in
theorem rwV_apply : rwV a i = ((1 / bin q 0 (binOf q t) : ℝ) : EReal) := by
  show Ideal.div ((cst 0x3F800000#32 : HV Ideal) i) (a.aw i) = _
  rw [cst_apply, bits_one, g.aw, div_real (bin_pos q 0 _).ne', one_mul]

omit hx in
theorem skV_apply : skV a i = ((mean q t : ℝ) : EReal) := by
  show a.ah i * rwV a i = _
  rw [g.ah, rwV_apply i q t g, ← EReal.coe_mul]; rfl

theorem thV_apply : thV xc a i = ((pos q t : ℝ) : EReal) := by
  show (xc i - a.ax i) * rwV a i = _
  rw [hx, g.ax, rwV_apply i q t g, ← EReal.coe_sub, ← EReal.coe_mul]; rfl

theorem omV_apply : omV xc a i = ((1 - pos q t : ℝ) : EReal) := by
  show (cst 0x3F800000#32 : HV Ideal) i - thV xc a i = _
  rw [cst_apply, bits_one, thV_apply i q xc t hx g, ← EReal.coe_sub]

theorem tmV_apply : tmV xc a i = ((pos q t * (1 - pos q t) : ℝ) : EReal) := by
  show thV xc a i * omV xc a i = _
  rw [thV_apply i q xc t hx g, omV_apply i q xc t hx g, ← EReal.coe_mul]

theorem t2V_apply : t2V xc a i = ((pos q t * pos q t : ℝ) : EReal) := by
  show thV xc a i * thV xc a i = _
  rw [thV_apply i q xc t hx g, ← EReal.coe_mul]

theorem rdV_apply (h : -3 ≤ t) (h' : t ≤ 3) : rdV xc a i = ((1 / den q t : ℝ) : EReal) := by
  show Ideal.div ((cst 0x3F800000#32 : HV Ideal) i)
    (skV a i + ((a.a0 i + a.a1 i) - (cst 0x40000000#32 : HV Ideal) i * skV a i) * tmV xc a i) = _
  rw [cst_apply, bits_one, cst_apply, bits_two, skV_apply i q t g, g.a0, g.a1, tmV_apply i q xc t hx g]
  simp only [← EReal.coe_mul, ← EReal.coe_add, ← EReal.coe_sub]
  show Ideal.div _ ((den q t : ℝ) : EReal) = _
  rw [div_real (den_pos q h h').ne', one_mul]

theorem valV_apply (h : -3 ≤ t) (h' : t ≤ 3) : valV xc a i = ((val q t : ℝ) : EReal) := by
  show a.ay i + a.ah i * (skV a i * t2V xc a i + a.a0 i * tmV xc a i) * rdV xc a i = _
  rw [g.ay, g.ah, skV_apply i q t g, t2V_apply i q xc t hx g, g.a0, tmV_apply i q xc t hx g, rdV_apply i q xc t hx g h h']
  simp only [← EReal.coe_mul, ← EReal.coe_add]; rfl

theorem derV_apply (h : -3 ≤ t) (h' : t ≤ 3) : derV xc a i = ((der q t : ℝ) : EReal) := by
  show (skV a i * skV a i) * ((a.a1 i * t2V xc a i + (cst 0x40000000#32 : HV Ideal) i * skV a i * tmV xc a i)
    + a.a0 i * omV xc a i * omV xc a i) * (rdV xc a i * rdV xc a i) = _
  rw [skV_apply i q t g, t2V_apply i q xc t hx g, g.a0, g.a1, tmV_apply i q xc t hx g, rdV_apply i q xc t hx g h h',
    cst_apply, bits_two, omV_apply i q xc t hx g]
  simp only [← EReal.coe_mul, ← EReal.coe_add]; rfl

end Final

omit hx in
theorem insV_apply : insV x i = BitVec.ofBool (decide (((-3 : ℝ) : EReal) < x i ∧ x i < ((3 : ℝ) : EReal))) := by
  show BitVec.ofBool (decide ((cst 0xC0400000#32 : HV Ideal) i < x i))
    &&& BitVec.ofBool (decide (x i < (cst 0x40400000#32 : HV Ideal) i)) = _
  rw [cst_apply, cst_apply, bits_neg_three, bits_three]
  by_cases h1 : ((-3 : ℝ) : EReal) < x i <;> by_cases h2 : x i < ((3 : ℝ) : EReal) <;> simp only [h1, h2] <;> rfl

omit hx in
include hP in
/-- The transformed inputs at the element. -/
theorem yV_apply : yV P x i = outY q (x i) := by
  show Scalar.select (insV x i) (valV (clampV x) (accV P x) i) (x i) = _
  have hx := clampV_apply x i
  unfold accV; rw [insV_apply, select_ofBool, valV_apply i q (clampV x) _ hx (good_last P i q hP _ _ hx) (clamp_ge _) (clamp_le _)]
  exact if_congr decide_eq_true_iff rfl rfl

omit hx in
include hP in
/-- The slopes' logarithms at the element. -/
theorem ldV_apply : ldV P x i = outL q (x i) := by
  show Scalar.select (insV x i) (Ideal.log (derV (clampV x) (accV P x) i)) ((cst 0x00000000#32 : HV Ideal) i) = _
  have hx := clampV_apply x i
  unfold accV; rw [insV_apply, select_ofBool, derV_apply i q (clampV x) _ hx (good_last P i q hP _ _ hx) (clamp_ge _) (clamp_le _),
    cst_apply, bits_zero]
  exact if_congr decide_eq_true_iff rfl rfl

end Cert.Proof.ChainIdeal

end
-- ==== Proof.Block.lean ====
/- What the second region leaves for one block: each half's pieces put together, at an element. -/
module

public import proofs.«01_k».proof.Proof.Planes
public import proofs.«01_k».proof.Proof.ChainIdeal
public import Idealize.ShloMosaic.Lib.Pointwise.Reduce

@[expose] public section

noncomputable section

namespace Cert.Proof.Block

open Idealize.ShloMosaic hiding ix0 ix1 ix2 ix3 ix4 ix5 eq_ix1 eq_ix2 eq_ix3
open Idealize.ShloMosaic.ValueIdx Cert.KernelIdeal Cert.KernelIdeal.Gen
open Cert.Proof.Chain Cert.Proof.Halves Cert.Proof.Consts Cert.Proof.Planes Cert.Proof.ChainIdeal
open scoped BigOperators

/-- Every one of an element's parameters is a real number. -/
def IsReal (p : ℕ → EReal) : Prop := ∀ j, p j = ((p j).toReal : EReal)

/-- The transformed input of an element with parameters `p`. -/
def outYE (p : ℕ → EReal) (x : EReal) : EReal := outY (fun j => (p j).toReal) x
/-- The logarithm of the slope at an element with parameters `p`. -/
def outLE (p : ℕ → EReal) (x : EReal) : EReal := outL (fun j => (p j).toReal) x

variable (x0 : Vec Ideal S64x512 .f32) (x1 : Vec Ideal S1024x512 .bf16) (x2 : Vec Ideal S3008x1024 .bf16)
  (x3 : Vec Ideal S3008x256 .f32)

/-- The parameters of feature `a`, sample `l` of a block. -/
def par (a : Fin 64) (l : Fin 512) (j : ℕ) : EReal :=
  (∑ k : Fin 1024, (x2 (ix2 (rowOf j a) k) : EReal) * x1 (ix2 k l))
    + x3 (ix2 (rowOf j a) ⟨l.val % 256, Nat.mod_lt _ (by decide)⟩)

/-- A row of the planes is a parameter of the block. -/
theorem rowsG_par (o : ℕ) (ho : o + 256 ≤ 512) (ho' : o % 256 = 0) (j : ℕ) (a : Fin 64) (l : Fin 256) (l' : Fin 512)
    (hl : l'.val = o + l.val) : rowsG o ho x1 x2 x3 (ix2 (rowOf j a) l) = par x1 x2 x3 a l' j := by
  have e1 : (⟨o + l.val, by have := l.isLt; omega⟩ : Fin 512) = l' := Fin.ext hl.symm
  have e2 : (⟨l'.val % 256, Nat.mod_lt _ (by decide)⟩ : Fin 256) = l := Fin.ext (by
    show l'.val % 256 = l.val; have := l.isLt; omega)
  unfold par; rw [e2, ← e1]; rfl

variable (c : Dev nD) (arg2 : Memref sig .tc .vmem S64x512 .f32) (harg2 : arg2.IsWhole) (arg3 : Memref sig .tc .vmem S1024x512 .bf16)
  (harg3 : arg3.IsWhole) (arg4 : Memref sig .tc .vmem S3008x1024 .bf16) (harg4 : arg4.IsWhole)
  (arg5 : Memref sig .tc .vmem S3008x256 .f32) (harg5 : arg5.IsWhole)
  (arg8 : Memref sig .tc .vmem S3008x256 .f32)

/-- The first half's input at an element. -/
theorem asInA (a : Fin 64) (l : Fin 256) (l' : Fin 512) (hl : l'.val = l.val) :
    asIn (inA arg2 harg2 x0) (ix2 a l) = x0 (ix2 a l') := by
  unfold asIn inA; rw [shapeCast_self, Memref.IsWhole.readAt_unread]
  congr 1; funext b; apply Fin.ext
  match b with
  | ⟨0, _⟩ => show 0 + 1 * a.val = a.val; omega
  | ⟨1, _⟩ => show 0 + 1 * l.val = l'.val; omega
/-- The second half's input at an element. -/
theorem asInB (a : Fin 64) (l : Fin 256) (l' : Fin 512) (hl : l'.val = 256 + l.val) :
    asIn (inB arg2 harg2 x0) (ix2 a l) = x0 (ix2 a l') := by
  unfold asIn inB; rw [shapeCast_self, Memref.IsWhole.readAt_unread]
  congr 1; funext b; apply Fin.ext
  match b with
  | ⟨0, _⟩ => show 0 + 1 * a.val = a.val; omega
  | ⟨1, _⟩ => show 256 + 1 * l.val = l'.val; omega

variable (hreal : ∀ a l, IsReal (par x1 x2 x3 a l))

include hreal

/-- The first half's planes at an element are real. -/
theorem planesA_real (a : Fin 64) (l : Fin 256) (l' : Fin 512) (hl : l'.val = l.val) (j : ℕ) :
    planesA c arg3 harg3 arg4 harg4 arg5 harg5 arg8 x1 x2 x3 j (ix2 a l) = ((par x1 x2 x3 a l' j).toReal : EReal) := by
  rw [planesA_apply, rowsG_par x1 x2 x3 0 _ rfl j a l l' (by omega)]; exact hreal a l' j
/-- The second half's planes at an element are real. -/
theorem planesB_real (a : Fin 64) (l : Fin 256) (l' : Fin 512) (hl : l'.val = 256 + l.val) (j : ℕ) :
    planesB c arg3 harg3 arg4 harg4 arg5 harg5 arg8 x1 x2 x3 j (ix2 a l) = ((par x1 x2 x3 a l' j).toReal : EReal) := by
  rw [planesB_apply, rowsG_par x1 x2 x3 256 _ rfl j a l l' hl]; exact hreal a l' j

/-- The block of transformed inputs. -/
def GY : S64x512.Idx → EReal := fun y => outYE (par x1 x2 x3 (y 0) (y 1)) (x0 y)
/-- The block of sums of logarithms. -/
def GS : S1x1x512.Idx → EReal := fun y => ∑ a : Fin 64, outLE (par x1 x2 x3 a (y 2)) (x0 (ix2 a (y 2)))

/-- The pieces of transformed inputs, put together. -/
theorem canonY (i : grid1.Coords) (arg6 : Memref sig .tc .vmem S64x512 .f32) (harg6 : arg6.IsWhole)
    (arg7 : Memref sig .tc .vmem S1x1x512 .f32) (harg7 : arg7.IsWhole) (harg8 : arg8.IsWhole)
    (arg9 : Memref sig .tc .vmem S3008x256 .f32) (harg9 : arg9.IsWhole) (y : S64x512.Idx) :
    View.canon (kernelRun1_A c i arg2 harg2 arg3 harg3 arg4 harg4 arg5 harg5 arg6 harg6 arg7 harg7 arg8 harg8 arg9 harg9 x0 x1 x2 x3).1 y
      = GY x0 x1 x2 x3 y := by
  have hc := cover1_A_4 c i arg2 harg2 arg3 harg3 arg4 harg4 arg5 harg5 arg6 harg6 arg7 harg7 arg8 harg8 arg9 harg9 x0 x1 x2 x3 y
  rw [run_pieces4] at hc ⊢
  refine View.canon_apply_of_pieces (GY x0 x1 x2 x3) _ ?_ y hc
  intro p hp
  simp only [List.mem_cons, List.not_mem_nil, or_false] at hp
  rcases hp with rfl | rfl
  · intro x
    obtain ⟨a, l, rfl⟩ : ∃ (a : Fin 64) (b : Fin 256), x = ix2 a b := ⟨x 0, x 1, eq_ix2 x⟩
    have hl := l.isLt
    refine (yV_apply _ _ (ix2 a l) _ (planesB_real x1 x2 x3 c arg3 harg3 arg4 harg4 arg5 harg5 arg9 hreal a l ⟨256 + l.val, by omega⟩ rfl)).trans ?_
    rw [asInB x0 arg2 harg2 a l ⟨256 + l.val, by omega⟩ rfl]
    have e : (Rect.unit (s := S64x512) ![0, 256] S64x256.size inb_S64x512_S64x256_0_256).emb (ix2 a l)
        = ix2 a (⟨256 + l.val, by omega⟩ : Fin 512) := by
      funext b; apply Fin.ext
      match b with
      | ⟨0, _⟩ => show 0 + 1 * a.val = a.val; omega
      | ⟨1, _⟩ => show 256 + 1 * l.val = 256 + l.val; omega
    exact (congrArg (GY x0 x1 x2 x3) e).symm
  · intro x
    obtain ⟨a, l, rfl⟩ : ∃ (a : Fin 64) (b : Fin 256), x = ix2 a b := ⟨x 0, x 1, eq_ix2 x⟩
    have hl := l.isLt
    refine (yV_apply _ _ (ix2 a l) _ (planesA_real x1 x2 x3 c arg3 harg3 arg4 harg4 arg5 harg5 arg8 hreal a l ⟨l.val, by omega⟩ rfl)).trans ?_
    rw [asInA x0 arg2 harg2 a l ⟨l.val, by omega⟩ rfl]
    have e : (Rect.unit (s := S64x512) ![0, 0] S64x256.size inb_S64x512_S64x256_0_0).emb (ix2 a l)
        = ix2 a (⟨l.val, by omega⟩ : Fin 512) := by
      funext b; apply Fin.ext
      match b with
      | ⟨0, _⟩ => show 0 + 1 * a.val = a.val; omega
      | ⟨1, _⟩ => show 0 + 1 * l.val = l.val; omega
    exact (congrArg (GY x0 x1 x2 x3) e).symm

omit hreal in
/-- A half's sums at an element. -/
theorem ldS_apply (P : ℕ → HV Ideal) (x : HV Ideal) (l : Fin 256) (z z' : Fin 1) :
    ldS P x (ix3 z z' l) = ∑ a : Fin 64, ldV P x (ix2 a l) := by
  unfold ldS
  refine (shapeCast_addUnit_apply ![1, 256] _ _ _).trans ((shapeCast_addUnit_apply ![256] _ _ _).trans ?_)
  exact Ideal.reduceAdd_r2_a0 _ _ _

/-- The pieces of sums, put together. -/
theorem canonL (i : grid1.Coords) (arg6 : Memref sig .tc .vmem S64x512 .f32) (harg6 : arg6.IsWhole)
    (arg7 : Memref sig .tc .vmem S1x1x512 .f32) (harg7 : arg7.IsWhole) (harg8 : arg8.IsWhole)
    (arg9 : Memref sig .tc .vmem S3008x256 .f32) (harg9 : arg9.IsWhole) (y : S1x1x512.Idx) :
    View.canon (kernelRun1_A c i arg2 harg2 arg3 harg3 arg4 harg4 arg5 harg5 arg6 harg6 arg7 harg7 arg8 harg8 arg9 harg9 x0 x1 x2 x3).2.1 y
      = GS x0 x1 x2 x3 y := by
  have hc := cover1_A_5 c i arg2 harg2 arg3 harg3 arg4 harg4 arg5 harg5 arg6 harg6 arg7 harg7 arg8 harg8 arg9 harg9 x0 x1 x2 x3 y
  rw [run_pieces5] at hc ⊢
  refine View.canon_apply_of_pieces (GS x0 x1 x2 x3) _ ?_ y hc
  intro p hp
  simp only [List.mem_cons, List.not_mem_nil, or_false] at hp
  rcases hp with rfl | rfl
  · intro x
    obtain ⟨z, z', l, rfl⟩ : ∃ (z z' : Fin 1) (b : Fin 256), x = ix3 z z' b := ⟨x 0, x 1, x 2, eq_ix3 x⟩
    have hl := l.isLt
    have e : (Rect.unit (s := S1x1x512) ![0, 0, 256] S1x1x256.size inb_S1x1x512_S1x1x256_0_0_256).emb (ix3 z z' l)
        = ix3 z z' (⟨256 + l.val, by omega⟩ : Fin 512) := by
      funext b; apply Fin.ext
      match b with
      | ⟨0, _⟩ => show 0 + 1 * z.val = z.val; omega
      | ⟨1, _⟩ => show 0 + 1 * z'.val = z'.val; omega
      | ⟨2, _⟩ => show 256 + 1 * l.val = 256 + l.val; omega
    refine Eq.trans ?_ (congrArg (GS x0 x1 x2 x3) e).symm
    refine (ldS_apply _ _ l z z').trans (Finset.sum_congr rfl fun a _ => ?_)
    refine (ldV_apply _ _ (ix2 a l) _ (planesB_real x1 x2 x3 c arg3 harg3 arg4 harg4 arg5 harg5 arg9 hreal a l ⟨256 + l.val, by omega⟩ rfl)).trans ?_
    rw [asInB x0 arg2 harg2 a l ⟨256 + l.val, by omega⟩ rfl]; rfl
  · intro x
    obtain ⟨z, z', l, rfl⟩ : ∃ (z z' : Fin 1) (b : Fin 256), x = ix3 z z' b := ⟨x 0, x 1, x 2, eq_ix3 x⟩
    have hl := l.isLt
    have e : (Rect.unit (s := S1x1x512) ![0, 0, 0] S1x1x256.size inb_S1x1x512_S1x1x256_0_0_0).emb (ix3 z z' l)
        = ix3 z z' (⟨l.val, by omega⟩ : Fin 512) := by
      funext b; apply Fin.ext
      match b with
      | ⟨0, _⟩ => show 0 + 1 * z.val = z.val; omega
      | ⟨1, _⟩ => show 0 + 1 * z'.val = z'.val; omega
      | ⟨2, _⟩ => show 0 + 1 * l.val = l.val; omega
    refine Eq.trans ?_ (congrArg (GS x0 x1 x2 x3) e).symm
    refine (ldS_apply _ _ l z z').trans (Finset.sum_congr rfl fun a _ => ?_)
    refine (ldV_apply _ _ (ix2 a l) _ (planesA_real x1 x2 x3 c arg3 harg3 arg4 harg4 arg5 harg5 arg8 hreal a l ⟨l.val, by omega⟩ rfl)).trans ?_
    rw [asInA x0 arg2 harg2 a l ⟨l.val, by omega⟩ rfl]; rfl

end Cert.Proof.Block

end
-- ==== Proof.Network.lean ====
/- The coupling network and the spline layer as mathematics of the argument arrays: two hidden layers of rectified
   linear units, one linear layer giving 47 numbers per feature, and the spline of those numbers. -/
module

public import proofs.«01_k».proof.Proof.Block

@[expose] public section

noncomputable section

namespace Cert.Proof.Network

open Idealize.ShloMosaic hiding ix0 ix1 ix2 ix3 ix4 ix5 eq_ix1 eq_ix2 eq_ix3
open Idealize.ShloMosaic.ValueIdx
open Cert.Proof.Block
open scoped BigOperators

/-- An array of numbers with one axis. -/
abbrev Arr1 (n : ℕ) := (⟨1, ![n]⟩ : Shape).Idx → EReal
/-- An array of numbers with two axes. -/
abbrev Arr2 (n m : ℕ) := (⟨2, ![n, m]⟩ : Shape).Idx → EReal

variable (x : Arr2 16384 256) (w0 : Arr2 256 1024) (b0 : Arr1 1024) (w1 : Arr2 1024 1024) (b1 : Arr1 1024)
  (w2 : Arr2 1024 12032) (b2 : Arr1 12032)

/-- The first hidden layer: sample `b`, unit `k`. -/
def h1 (b : Fin 16384) (k : Fin 1024) : EReal := max ((∑ p : Fin 256, x (ix2 b p) * w0 (ix2 p k)) + b0 (ix1 k)) 0
/-- The second hidden layer: sample `b`, unit `k`. -/
def h2 (b : Fin 16384) (k : Fin 1024) : EReal :=
  max ((∑ p : Fin 1024, h1 x w0 b0 b p * w1 (ix2 p k)) + b1 (ix1 k)) 0
/-- The column of the last layer that holds number `j` of feature `f`. -/
def col (f : Fin 256) (j : ℕ) : Fin 12032 := ⟨f.val * 47 + j % 47, by have := f.isLt; have := Nat.mod_lt j (show 0 < 47 by decide); omega⟩
/-- The numbers the network gives for sample `b`, feature `f`. -/
def param (b : Fin 16384) (f : Fin 256) (j : ℕ) : EReal :=
  (∑ k : Fin 1024, h2 x w0 b0 w1 b1 b k * w2 (ix2 k (col f j))) + b2 (ix1 (col f j))

/-- The transformed inputs. -/
def result (x2 : Arr2 16384 256) : Arr2 16384 256 := fun i => outYE (param x w0 b0 w1 b1 w2 b2 (i 0) (i 1)) (x2 i)
/-- The logarithm of the Jacobian determinant of each sample. -/
def logdet (x2 : Arr2 16384 256) : Arr1 16384 := fun i =>
  ∑ f : Fin 256, outLE (param x w0 b0 w1 b1 w2 b2 (i 0) f) (x2 (ix2 (i 0) f))

/-- A number that is neither infinity. -/
def Fin' (a : EReal) : Prop := ∃ r : ℝ, a = (r : EReal)

theorem fin_add {a b : EReal} (ha : Fin' a) (hb : Fin' b) : Fin' (a + b) := by
  obtain ⟨r, rfl⟩ := ha; obtain ⟨s, rfl⟩ := hb; exact ⟨r + s, (EReal.coe_add r s).symm⟩
theorem fin_mul {a b : EReal} (ha : Fin' a) (hb : Fin' b) : Fin' (a * b) := by
  obtain ⟨r, rfl⟩ := ha; obtain ⟨s, rfl⟩ := hb; exact ⟨r * s, (EReal.coe_mul r s).symm⟩
theorem fin_max {a b : EReal} (ha : Fin' a) (hb : Fin' b) : Fin' (max a b) := by
  rcases max_choice a b with h | h <;> rw [h] <;> assumption
theorem fin_zero : Fin' 0 := ⟨0, EReal.coe_zero.symm⟩
theorem fin_sum {n : ℕ} (f : Fin n → EReal) (h : ∀ i, Fin' (f i)) : Fin' (∑ i, f i) :=
  Finset.sum_induction f Fin' (fun _ _ => fin_add) fin_zero fun i _ => h i

variable (hx : ∀ i, Fin' (x i)) (hw0 : ∀ i, Fin' (w0 i)) (hb0 : ∀ i, Fin' (b0 i)) (hw1 : ∀ i, Fin' (w1 i))
  (hb1 : ∀ i, Fin' (b1 i)) (hw2 : ∀ i, Fin' (w2 i)) (hb2 : ∀ i, Fin' (b2 i))

include hx hw0 hb0 in
theorem fin_h1 (b : Fin 16384) (k : Fin 1024) : Fin' (h1 x w0 b0 b k) :=
  fin_max (fin_add (fin_sum _ fun _ => fin_mul (hx _) (hw0 _)) (hb0 _)) fin_zero
include hx hw0 hb0 hw1 hb1 in
theorem fin_h2 (b : Fin 16384) (k : Fin 1024) : Fin' (h2 x w0 b0 w1 b1 b k) :=
  fin_max (fin_add (fin_sum _ fun _ => fin_mul (fin_h1 x w0 b0 hx hw0 hb0 b _) (hw1 _)) (hb1 _)) fin_zero
include hx hw0 hb0 hw1 hb1 hw2 hb2 in
/-- A finite network gives real numbers. -/
theorem param_real (b : Fin 16384) (f : Fin 256) : IsReal (param x w0 b0 w1 b1 w2 b2 b f) := fun j => by
  have h : Fin' (param x w0 b0 w1 b1 w2 b2 b f j) := fin_add (fin_sum _ fun k =>
    fin_mul (fin_h2 x w0 b0 w1 b1 hx hw0 hb0 hw1 hb1 b k) (hw2 (ix2 k (col f j)))) (hb2 (ix1 (col f j)))
  obtain ⟨r, hr⟩ := h
  rw [hr, EReal.toReal_coe]

end Cert.Proof.Network

end
-- ==== Proof.Finite.lean ====
/- The precondition read back: every element of the network's arrays is a real number. -/
module

public import proofs.«01_k».proof.Pre_finite_network
public import proofs.«01_k».proof.Proof.Network
public import Idealize.ShloMosaic.Lib.ReduceAll
public import Idealize.ShloMosaic.PureOps.Ideal.Laws

@[expose] public section

noncomputable section

namespace Cert.Proof.Finite

open Idealize.ShloMosaic
open Cert.Pre_finite_network Cert.Proof.Consts Cert.Proof.Network

/-- The shape relations the precondition's operations take. -/
theorem facts : Facts :=
  ⟨by decide, by decide, by decide, by decide, by decide, by decide, by decide, by decide, by decide, by decide, by decide,
    by decide, by decide⟩

/-- A number whose absolute value is below infinity is real. -/
theorem fin_of_abs_lt {a : EReal} (h : max a (-a) < ⊤) : Fin' a := by
  induction a with
  | bot => exact absurd h (by simp)
  | coe r => exact ⟨r, rfl⟩
  | top => exact absurd h (by simp)

/-- An array all of whose absolute values compare below infinity holds real numbers. -/
theorem fin_of_all {s : Shape} {axes : List (Fin s.rank)} (x : s.Idx → EReal) (hb : S_.BroadcastsInDim s ![]) (hr : s.ReducesTo axes S_)
    (hu : 0 < S_.numel) (j : S_.Idx)
    (e : Host.reduce IntOp.andi (cmpf (F := Ideal) (φ := .f32) .olt (Host.absf (F := Ideal) (φ := .f32) x)
      (broadcastInDim s ![] hb (constant (F := Ideal) S_ .f32 0x7F800000#32))) (constantI S_ 1 1#1) hr hu j = 1#1) (i : s.Idx) :
    Fin' (x i) := by
  haveI : Subsingleton S_.Idx := ⟨fun a b => funext fun k => k.elim0⟩
  have h := Host.reduce_andi_all _ _ hr hu j e i
  have h' : BitVec.ofBool (decide (max (x i) (-(x i)) < Ideal.ofBits .f32 0x7F800000#32)) = 1#1 := h
  rw [bits_inf] at h'
  by_cases hd : max (x i) (-(x i)) < ⊤
  · exact fin_of_abs_lt hd
  · rw [decide_eq_false hd] at h'; exact absurd h' (by decide)

/-- The precondition says that every element of the seven network arrays is real. -/
theorem fin_of_pre [Facts] (x0 x1 : S16384x256.Idx → EReal) (x2 : S256x1024.Idx → EReal) (x3 : S1024.Idx → EReal) (x4 : S1024x1024.Idx → EReal)
    (x5 : S1024.Idx → EReal) (x6 : S1024x12032.Idx → EReal) (x7 : S12032.Idx → EReal)
    (h : fn (F := Ideal) x0 x1 x2 x3 x4 x5 x6 x7 = fun _ => 1#1) :
    (∀ i, Fin' (x0 i)) ∧ (∀ i, Fin' (x2 i)) ∧ (∀ i, Fin' (x3 i)) ∧ (∀ i, Fin' (x4 i)) ∧ (∀ i, Fin' (x5 i))
      ∧ (∀ i, Fin' (x6 i)) ∧ (∀ i, Fin' (x7 i)) := by
  have h0 := congrFun h (fun a => a.elim0)
  unfold fn fn_part1 at h0
  dsimp only at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fin_of_all x0 _ _ _ _ e0, fin_of_all x2 _ _ _ _ e2, fin_of_all x3 _ _ _ _ e3, fin_of_all x4 _ _ _ _ e4,
    fin_of_all x5 _ _ _ _ e5, fin_of_all x6 _ _ _ _ e6, fin_of_all x7 _ _ _ _ e7⟩

end Cert.Proof.Finite

end
-- ==== Proof.Region0.lean ====
/- What the first region leaves in its two result arrays: the hidden activations of the network, and the transposed
   inputs. -/
module

public import proofs.«01_k».proof.Proof.Consts
public import proofs.«01_k».proof.Proof.Gen.KernelIdeal.Frame
public import Idealize.ShloMosaic.Lib.MatmulPlain
public import Idealize.ShloMosaic.Lib.Pipeline.ValueKit

@[expose] public section

noncomputable section

namespace Cert.Proof.Region0

open Idealize.SL
open Idealize.ShloMosaic hiding ix0 ix1 ix2 ix3 ix4 ix5 eq_ix1 eq_ix2 eq_ix3
open Idealize.ShloMosaic.ValueIdx Cert.KernelIdeal Cert.KernelIdeal.Gen
open Idealize.ShloMosaic.Pipeline
open Cert.Proof.Consts
open scoped BigOperators

/-- The transpose stored for the second result, at an element. -/
theorem pay1_apply (v : Vec Ideal S1024x256 .f32) (f : Fin 256) (b : Fin 1024) :
    k0_pay1 v (ix2 f b) = v (ix2 b f) := by
  unfold k0_pay1
  exact transpose_apply _ _ _ _ _ fun a => by
    match a with
    | ⟨0, _⟩ => rfl
    | ⟨1, _⟩ => rfl

/-- The hidden activations of the first layer, at an element. -/
def hid (v0 : Vec Ideal S1024x256 .f32) (v6 : Vec Ideal S1024x256 .bf16) (v9 : Vec Ideal S1024x1024 .f32) (i b : Fin 1024) : EReal :=
  max ((∑ p : Fin 256, (v6 (ix2 i p) : EReal) * v0 (ix2 b p)) + v9 (ix2 i b)) 0

/-- The hidden activations of the second layer, at an element. -/
theorem pay2_apply (v0 : Vec Ideal S1024x256 .f32) (v6 : Vec Ideal S1024x256 .bf16) (v9 : Vec Ideal S1024x1024 .f32)
    (v15 : Vec Ideal S1024x1024 .bf16) (v18 : Vec Ideal S1024x1024 .f32) (i b : Fin 1024) :
    k0_pay2 v0 v6 v9 v15 v18 (ix2 i b)
      = max ((∑ k : Fin 1024, (v15 (ix2 i k) : EReal) * hid v0 v6 v9 k b) + v18 (ix2 i b)) 0 := by
  unfold k0_pay2
  simp only [shapeCast_self]
  refine congrArg₂ max (congrArg₂ (· + ·) ?_ rfl) (bits_zero.trans EReal.coe_zero)
  refine (Ideal.matmul_plain_apply (φ₁ := .bf16) (φ₂ := .bf16) none _ _ _ i b).trans ?_
  refine (congrArg₂ (· + ·) (bits_zero.trans EReal.coe_zero) ?_).trans (zero_add _)
  refine Finset.sum_congr rfl fun k _ => congrArg₂ (· * ·) rfl ?_
  refine congrArg₂ max (congrArg₂ (· + ·) ?_ rfl) (bits_zero.trans EReal.coe_zero)
  refine (Ideal.matmul_plain_apply (φ₁ := .bf16) (φ₂ := .bf16) none _ _ _ k b).trans ?_
  refine (congrArg₂ (· + ·) (bits_zero.trans EReal.coe_zero) ?_).trans (zero_add _)
  refine Finset.sum_congr rfl fun p _ => congrArg₂ (· * ·) rfl ?_
  exact transpose_apply _ _ _ _ _ fun a => by
    match a with
    | ⟨0, _⟩ => rfl
    | ⟨1, _⟩ => rfl

variable (V : (c : Dev nD) → (b : Ref sig .tc) → Buf (Elt Ideal) ((c.tc : Thread nD τ).loc b)) (c : Dev nD)

/-- The arrays the region reads. -/
abbrev a1 : S16384x256.Idx → EReal := V c main_arg0
abbrev a2 : S16384x256.Idx → EReal := V c main_arg1
abbrev aw0 : S1024x256.Idx → EReal := V c main_v1
abbrev aw1 : S1024x1024.Idx → EReal := V c main_v3
abbrev ab0 : S1024x1024.Idx → EReal := V c main_v5
abbrev ab1 : S1024x1024.Idx → EReal := V c main_v7

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)

/-- Sample `l` of point `t`'s block. -/
def sampOf (t : Fin cfg0.N) (l : Fin 1024) : Fin 16384 :=
  ⟨t.val * 1024 + l.val, by have := l.isLt; have h : t.val < 16 := lt_of_lt_of_eq t.isLt N_0; omega⟩

theorem blk0 (t : Fin cfg0.N) (l : Fin 1024) (p : Fin 256) : iblk0 V c 0 t (ix2 l p) = a1 V c (ix2 (sampOf t l) p) := by
  have e := idx0 t
  blk_simp [iblk0]
  refine congrArg (a1 V c) ?_
  blk_ext [e, sampOf]
theorem blk1 (t : Fin cfg0.N) (l : Fin 1024) (p : Fin 256) : iblk0 V c 1 t (ix2 l p) = a2 V c (ix2 (sampOf t l) p) := by
  have e := idx1 t
  blk_simp [iblk0]
  refine congrArg (a2 V c) ?_
  blk_ext [e, sampOf]
theorem blk2 (t : Fin cfg0.N) (l : Fin 1024) (p : Fin 256) : iblk0 V c 2 t (ix2 l p) = aw0 V c (ix2 l p) := by
  have e := idx2 t
  blk_simp [iblk0]
  refine congrArg (aw0 V c) ?_
  blk_ext [e]
theorem blk3 (t : Fin cfg0.N) (l : Fin 1024) (p : Fin 1024) : iblk0 V c 3 t (ix2 l p) = aw1 V c (ix2 l p) := by
  have e := idx3 t
  blk_simp [iblk0]
  refine congrArg (aw1 V c) ?_
  blk_ext [e]
theorem blk4 (t : Fin cfg0.N) (l : Fin 1024) (p : Fin 1024) : iblk0 V c 4 t (ix2 l p) = ab0 V c (ix2 l p) := by
  have e := idx4 t
  blk_simp [iblk0]
  refine congrArg (ab0 V c) ?_
  blk_ext [e]
theorem blk5 (t : Fin cfg0.N) (l : Fin 1024) (p : Fin 1024) : iblk0 V c 5 t (ix2 l p) = ab1 V c (ix2 l p) := by
  have e := idx5 t
  blk_simp [iblk0]
  refine congrArg (ab1 V c) ?_
  blk_ext [e]

/-- A sample's column among the repeated biases. -/
def colOf (b : Fin 16384) : Fin 1024 := ⟨b.val % 1024, Nat.mod_lt _ (by decide)⟩

/-- The first layer's activations. -/
def hid1 (k : Fin 1024) (b : Fin 16384) : EReal :=
  max ((∑ p : Fin 256, aw0 V c (ix2 k p) * a1 V c (ix2 b p)) + ab0 V c (ix2 k (colOf b))) 0
/-- The second layer's activations. -/
def GH : S1024x16384.Idx → EReal := fun y =>
  max ((∑ k : Fin 1024, aw1 V c (ix2 (y 0) k) * hid1 V c k (y 1)) + ab1 V c (ix2 (y 0) (colOf (y 1)))) 0
/-- The transposed inputs. -/
def GX : S256x16384.Idx → EReal := fun y => a2 V c (ix2 (y 1) (y 0))

theorem colOf_samp (t : Fin cfg0.N) (l : Fin 1024) : colOf (sampOf t l) = l :=
  Fin.ext (by show (t.val * 1024 + l.val) % 1024 = l.val; have := l.isLt; omega)

/-- A load of a whole block is the block. -/
theorem ld0 {e : EltTy} (x : Vec Ideal S1024x256 e) : View.ld x r0_0 = x :=
  View.ld_unit_zero (by funext a; fin_cases a <;> rfl) _ _
theorem ld2 {e : EltTy} (x : Vec Ideal S1024x1024 e) : View.ld x r0_2 = x :=
  View.ld_unit_zero (by funext a; fin_cases a <;> rfl) _ _

/-- What a point leaves of the activations. -/
theorem outsH (t : Fin cfg0.N) (i l : Fin 1024) :
    out0_6 (iblk0 V c 0 t) (iblk0 V c 1 t) (iblk0 V c 2 t) (iblk0 V c 3 t) (iblk0 V c 4 t) (iblk0 V c 5 t) (ix2 i l)
      = GH V c (ix2 i (sampOf t l)) := by
  unfold out0_6
  rw [View.canon_unit_zero (by funext a; fin_cases a <;> rfl)]
  rw [ld0, ld0, ld2, ld2, ld2, pay2_apply]
  refine congrArg₂ max (congrArg₂ (· + ·) ?_ ?_) rfl
  · refine Finset.sum_congr rfl fun k _ => congrArg₂ (· * ·) (blk3 V c t i k) ?_
    refine congrArg₂ max (congrArg₂ (· + ·) ?_ ?_) rfl
    · exact Finset.sum_congr rfl fun p _ => congrArg₂ (· * ·) (blk2 V c t k p) (blk0 V c t l p)
    · exact (blk4 V c t k l).trans (congrArg (fun z => ab0 V c (ix2 k z)) (colOf_samp t l).symm)
  · exact (blk5 V c t i l).trans (congrArg (fun z => ab1 V c (ix2 i z)) (colOf_samp t l).symm)

/-- What a point leaves of the transposed inputs. -/
theorem outsX (t : Fin cfg0.N) (f : Fin 256) (l : Fin 1024) :
    out0_7 (iblk0 V c 0 t) (iblk0 V c 1 t) (iblk0 V c 2 t) (iblk0 V c 3 t) (iblk0 V c 4 t) (iblk0 V c 5 t) (ix2 f l)
      = GX V c (ix2 f (sampOf t l)) := by
  unfold out0_7
  rw [View.canon_unit_zero (by funext a; fin_cases a <;> rfl)]
  rw [ld0, pay1_apply, blk1]
  rfl

/-- The activations' array after the region. -/
theorem arrH : (dat0 V c).arrAt 6 cfg0.N = GH V c := by
  refine (dat0 V c).arrAt_eq_of_covers 6 _ (by decide +kernel) fun t hf y => ?_
  have e := idx6 t
  obtain ⟨a, l, rfl⟩ : ∃ (a b : Fin 1024), y = ix2 a b := ⟨y 0, y 1, eq_ix2 y⟩
  have hy : ((cfg0.win 6).blk t).view.emb (ix2 a l) = ix2 a (sampOf t l) := by
    blk_ext [e, sampOf]
  rw [hy]
  blk_simp
  rw [after0_6]
  exact outsH V c t a l

/-- The transposed inputs' array after the region. -/
theorem arrX : (dat0 V c).arrAt 7 cfg0.N = GX V c := by
  refine (dat0 V c).arrAt_eq_of_covers 7 _ (by decide +kernel) fun t hf y => ?_
  have e := idx7 t
  obtain ⟨a, l, rfl⟩ : ∃ (a : Fin 256) (b : Fin 1024), y = ix2 a b := ⟨y 0, y 1, eq_ix2 y⟩
  have hy : ((cfg0.win 7).blk t).view.emb (ix2 a l) = ix2 a (sampOf t l) := by
    blk_ext [e, sampOf]
  rw [hy]
  blk_simp
  rw [after0_7]
  exact outsX V c t a l

end Cert.Proof.Region0

end
-- ==== Proof.Region1.lean ====
/- What the second region leaves in its two result arrays, as functions of the arrays it reads. -/
module

public import proofs.«01_k».proof.Proof.Block
public import Idealize.ShloMosaic.Lib.Pipeline.ValueKit

@[expose] public section

noncomputable section

namespace Cert.Proof.Region1

open Idealize.SL
open Idealize.ShloMosaic hiding ix0 ix1 ix2 ix3 ix4 ix5 eq_ix1 eq_ix2 eq_ix3
open Idealize.ShloMosaic.ValueIdx Cert.KernelIdeal Cert.KernelIdeal.Gen
open Idealize.ShloMosaic.Pipeline
open Cert.Proof.Planes Cert.Proof.Block
open scoped BigOperators

/-- The row of the reordered weights that holds parameter `j` of feature `f`. -/
def rowF (f : Fin 256) (j : ℕ) : Fin 12032 := ⟨f.val / 64 * 3008 + (64 * (j % 47) + f.val % 64), by have := f.isLt; omega⟩

/-- The parameters of feature `f`, sample `b`. -/
def parA (H : S1024x16384.Idx → EReal) (Wp : S12032x1024.Idx → EReal) (Bp : S12032x256.Idx → EReal) (f : Fin 256) (b : Fin 16384)
    (j : ℕ) : EReal :=
  (∑ k : Fin 1024, Wp (ix2 (rowF f j) k) * H (ix2 k b)) + Bp (ix2 (rowF f j) ⟨b.val % 256, Nat.mod_lt _ (by decide)⟩)

theorem idx0 : ∀ t : Fin cfg1.N, win1_0.index t = ![t.val / 32, t.val % 32] := (by decide +kernel : ∀ t : Fin grid1.N, _)
theorem idx1 : ∀ t : Fin cfg1.N, win1_1.index t = ![0, t.val % 32] := (by decide +kernel : ∀ t : Fin grid1.N, _)
theorem idx2 : ∀ t : Fin cfg1.N, win1_2.index t = ![t.val / 32, 0] := (by decide +kernel : ∀ t : Fin grid1.N, _)
theorem idx3 : ∀ t : Fin cfg1.N, win1_3.index t = ![t.val / 32, 0] := (by decide +kernel : ∀ t : Fin grid1.N, _)
theorem idx4 : ∀ t : Fin cfg1.N, win1_4.index t = ![t.val / 32, t.val % 32] := (by decide +kernel : ∀ t : Fin grid1.N, _)
theorem idx5 : ∀ t : Fin cfg1.N, win1_5.index t = ![t.val / 32, 0, t.val % 32] := (by decide +kernel : ∀ t : Fin grid1.N, _)

variable (V : (c : Dev nD) → (b : Ref sig .tc) → Buf (Elt Ideal) ((c.tc : Thread nD τ).loc b)) (c : Dev nD)

/-- The arrays the region reads. -/
abbrev aX : S256x16384.Idx → EReal := V c main_v8_1
abbrev aH : S1024x16384.Idx → EReal := V c main_v8_0
abbrev aW : S12032x1024.Idx → EReal := V c main_v12
abbrev aB : S12032x256.Idx → EReal := V c main_v17

/-- Feature `a` of point `t`'s block. -/
def featOf (t : Fin cfg1.N) (a : Fin 64) : Fin 256 :=
  ⟨t.val / 32 * 64 + a.val, by have := a.isLt; have h : t.val < 128 := lt_of_lt_of_eq t.isLt N_1; omega⟩
/-- Sample `l` of point `t`'s block. -/
def sampOf (t : Fin cfg1.N) (l : Fin 512) : Fin 16384 :=
  ⟨t.val % 32 * 512 + l.val, by have := l.isLt; omega⟩

theorem blk0 (t : Fin cfg1.N) (a : Fin 64) (l : Fin 512) :
    iblk1 V c 0 t (ix2 a l) = aX V c (ix2 (featOf t a) (sampOf t l)) := by
  have e := idx0 t
  blk_simp [iblk1]
  refine congrArg (aX V c) ?_
  blk_ext [e, featOf, sampOf]

theorem blk1 (t : Fin cfg1.N) (k : Fin 1024) (l : Fin 512) :
    iblk1 V c 1 t (ix2 k l) = aH V c (ix2 k (sampOf t l)) := by
  have e := idx1 t
  blk_simp [iblk1]
  refine congrArg (aH V c) ?_
  blk_ext [e, sampOf]

theorem blk2 (t : Fin cfg1.N) (j : ℕ) (a : Fin 64) (k : Fin 1024) :
    iblk1 V c 2 t (ix2 (rowOf j a) k) = aW V c (ix2 (rowF (featOf t a) j) k) := by
  have e := idx2 t
  have := a.isLt
  blk_simp [iblk1]
  refine congrArg (aW V c) ?_
  blk_ext [e, rowOf, rowF, featOf]

theorem blk3 (t : Fin cfg1.N) (j : ℕ) (a : Fin 64) (l : Fin 256) :
    iblk1 V c 3 t (ix2 (rowOf j a) l) = aB V c (ix2 (rowF (featOf t a) j) l) := by
  have e := idx3 t
  have := a.isLt
  blk_simp [iblk1]
  refine congrArg (aB V c) ?_
  blk_ext [e, rowOf, rowF, featOf]

/-- A block's parameters are the arrays'. -/
theorem par_eq (t : Fin cfg1.N) (a : Fin 64) (l : Fin 512) :
    par (iblk1 V c 1 t) (iblk1 V c 2 t) (iblk1 V c 3 t) a l = parA (aH V c) (aW V c) (aB V c) (featOf t a) (sampOf t l) := by
  funext j
  unfold par parA
  rw [blk3]
  congr 1
  · exact Finset.sum_congr rfl fun k _ => by rw [blk1, blk2]
  · refine congrArg (aB V c) (congrArg (ix2 _) (Fin.ext ?_))
    show l.val % 256 = (t.val % 32 * 512 + l.val) % 256
    omega

/-- The first result: every element transformed with its parameters. -/
def GY1 : S256x16384.Idx → EReal := fun y => outYE (parA (aH V c) (aW V c) (aB V c) (y 0) (y 1)) (aX V c y)
/-- The second result: a quarter of the features' logarithms, summed. -/
def GS1 : S4x1x16384.Idx → EReal := fun y => ∑ a : Fin 64,
  outLE (parA (aH V c) (aW V c) (aB V c) ⟨(y 0).val * 64 + a.val, by have := a.isLt; have : (y 0).val < 4 := (y 0).isLt; omega⟩ (y 2))
    (aX V c (ix2 ⟨(y 0).val * 64 + a.val, by have := a.isLt; have : (y 0).val < 4 := (y 0).isLt; omega⟩ (y 2)))

variable (hreal : ∀ f b, IsReal (parA (aH V c) (aW V c) (aB V c) f b))
include hreal

omit hreal in
/-- An element of the first result under a point's block. -/
theorem GY1_blk (t : Fin cfg1.N) (a : Fin 64) (l : Fin 512) :
    GY (iblk1 V c 0 t) (iblk1 V c 1 t) (iblk1 V c 2 t) (iblk1 V c 3 t) (ix2 a l) = GY1 V c (ix2 (featOf t a) (sampOf t l)) := by
  show outYE (par (iblk1 V c 1 t) (iblk1 V c 2 t) (iblk1 V c 3 t) a l) (iblk1 V c 0 t (ix2 a l)) = _
  rw [par_eq, blk0]; rfl

omit hreal in
/-- An element of the second result under a point's block. -/
theorem GS1_blk (t : Fin cfg1.N) (z z' : Fin 1) (l : Fin 512) (g : Fin 4) (hg : g.val = t.val / 32) :
    GS (iblk1 V c 0 t) (iblk1 V c 1 t) (iblk1 V c 2 t) (iblk1 V c 3 t) (ix3 z z' l) = GS1 V c (ix3 g z' (sampOf t l)) := by
  show ∑ a : Fin 64, outLE (par (iblk1 V c 1 t) (iblk1 V c 2 t) (iblk1 V c 3 t) a l) (iblk1 V c 0 t (ix2 a l)) = _
  refine Finset.sum_congr rfl fun a _ => ?_
  rw [par_eq, blk0]
  have e : featOf t a = ⟨g.val * 64 + a.val, by have := a.isLt; have := g.isLt; omega⟩ := Fin.ext (by show t.val / 32 * 64 + a.val = g.val * 64 + a.val; rw [hg])
  rw [e]

/-- What a point leaves of the first result. -/
theorem outsY (t : Fin cfg1.N) (y : S64x512.Idx) :
    (outsAt1 V c t).1 y = GY (iblk1 V c 0 t) (iblk1 V c 1 t) (iblk1 V c 2 t) (iblk1 V c 3 t) y := by
  have hr : ∀ a l, IsReal (par (iblk1 V c 1 t) (iblk1 V c 2 t) (iblk1 V c 3 t) a l) := fun a l => by rw [par_eq]; exact hreal _ _
  unfold outsAt1
  dsimp only
  unfold out1_A_4
  rw [View.read_writes_junk_eq_canon]
  exact canonY (hreal := hr) ..

/-- What a point leaves of the second result. -/
theorem outsS (t : Fin cfg1.N) (y : S1x1x512.Idx) :
    (outsAt1 V c t).2 y = GS (iblk1 V c 0 t) (iblk1 V c 1 t) (iblk1 V c 2 t) (iblk1 V c 3 t) y := by
  have hr : ∀ a l, IsReal (par (iblk1 V c 1 t) (iblk1 V c 2 t) (iblk1 V c 3 t) a l) := fun a l => by rw [par_eq]; exact hreal _ _
  unfold outsAt1
  dsimp only
  unfold out1_A_5
  rw [View.read_writes_junk_eq_canon]
  exact canonL (hreal := hr) ..

/-- The first result array after the region. -/
theorem arrY : (dat1 V c).arrAt 4 cfg1.N = GY1 V c := by
  refine (dat1 V c).arrAt_eq_of_covers 4 _ (by decide +kernel) fun t hf y => ?_
  have e := idx4 t
  obtain ⟨a, l, rfl⟩ : ∃ (a : Fin 64) (b : Fin 512), y = ix2 a b := ⟨y 0, y 1, eq_ix2 y⟩
  have hy : ((cfg1.win 4).blk t).view.emb (ix2 a l) = ix2 (featOf t a) (sampOf t l) := by
    blk_ext [e, featOf, sampOf]
  rw [hy]
  blk_simp
  rw [after1_4]
  exact (outsY V c hreal t _).trans (GY1_blk V c t a l)

/-- The second result array after the region. -/
theorem arrS : (dat1 V c).arrAt 5 cfg1.N = GS1 V c := by
  refine (dat1 V c).arrAt_eq_of_covers 5 _ (by decide +kernel) fun t hf y => ?_
  have e := idx5 t
  obtain ⟨z, z', l, rfl⟩ : ∃ (a b : Fin 1) (l : Fin 512), y = ix3 a b l := ⟨y 0, y 1, y 2, eq_ix3 y⟩
  have ht : t.val < 128 := lt_of_lt_of_eq t.isLt N_1
  have hz := z.isLt
  have hz' := z'.isLt
  have hy : ((cfg1.win 5).blk t).view.emb (ix3 z z' l) = ix3 (⟨t.val / 32, by omega⟩ : Fin 4) z' (sampOf t l) := by
    blk_ext [e, sampOf]
  rw [hy]
  blk_simp
  rw [after1_5]
  exact (outsS V c hreal t _).trans (GS1_blk V c t z z' l _ rfl)

end Cert.Proof.Region1

end
-- ==== Proof.Host.lean ====
/- What the host operations around the regions leave: the regions' arrays as mathematics of the argument arrays, and
   the kernel's two results. -/
module

public import proofs.«01_k».proof.Proof.Network
public import proofs.«01_k».proof.Proof.Region0
public import proofs.«01_k».proof.Proof.Region1
public import Idealize.ShloMosaic.Lib.StableHlo.Run

@[expose] public section

noncomputable section

namespace Cert.Proof.HostValue

open Idealize.SL
open Idealize.ShloMosaic hiding ix0 ix1 ix2 ix3 ix4 ix5 eq_ix1 eq_ix2 eq_ix3
open Idealize.ShloMosaic.ValueIdx Cert.KernelIdeal Cert.KernelIdeal.Gen
open Idealize.ShloMosaic.Pipeline Idealize.ShloMosaic.StableHlo
open Cert.Proof.Consts Cert.Proof.Block Cert.Proof.Network
open scoped BigOperators

variable (m : (ℓ : Loc nD τ sig) → Buf (Elt Ideal) ℓ) (ρ : Dev nD → PrngReg) (c : Dev nD)

/-- The argument arrays at launch. -/
abbrev g0 : Arr2 16384 256 := m ((c.tc : Thread nD τ).loc main_arg0)
abbrev g1 : Arr2 16384 256 := m ((c.tc : Thread nD τ).loc main_arg1)
abbrev g2 : Arr2 256 1024 := m ((c.tc : Thread nD τ).loc main_arg2)
abbrev g3 : Arr1 1024 := m ((c.tc : Thread nD τ).loc main_arg3)
abbrev g4 : Arr2 1024 1024 := m ((c.tc : Thread nD τ).loc main_arg4)
abbrev g5 : Arr1 1024 := m ((c.tc : Thread nD τ).loc main_arg5)
abbrev g6 : Arr2 1024 12032 := m ((c.tc : Thread nD τ).loc main_arg6)
abbrev g7 : Arr1 12032 := m ((c.tc : Thread nD τ).loc main_arg7)

/-- The numbers the network gives, of the argument arrays at launch. -/
abbrev prm (b : Fin 16384) (f : Fin 256) (j : ℕ) : EReal :=
  param (g0 m c) (g2 m c) (g3 m c) (g4 m c) (g5 m c) (g6 m c) (g7 m c) b f j

/-! The first region's entry arrays. -/

theorem w0_eq : (V1 m ρ c main_v1 : S1024x256.Idx → EReal)
    = (truncf (F := Ideal) .bf16 (transpose S1024x256 [1, 0] (g2 m c : Vec Ideal S256x1024 .f32) transposes_S256x1024_S1024x256_1_0)
        bitsLt_bf16_f32 : FVec Ideal S1024x256 .bf16) := by
  show StableHlo.after hostOps0 (W0 m ρ c) (Proc.devRef .tc main_v1) = _
  after_results
theorem w1_eq : (V1 m ρ c main_v3 : S1024x1024.Idx → EReal)
    = (truncf (F := Ideal) .bf16 (transpose S1024x1024 [1, 0] (g4 m c : Vec Ideal S1024x1024 .f32) transposes_S1024x1024_S1024x1024_1_0)
        bitsLt_bf16_f32 : FVec Ideal S1024x1024 .bf16) := by
  show StableHlo.after hostOps0 (W0 m ρ c) (Proc.devRef .tc main_v3) = _
  after_results
theorem b0_eq : (V1 m ρ c main_v5 : S1024x1024.Idx → EReal)
    = (broadcastInDim S1024x1024 ![0, 1] bcast_S1024x1_S1024x1024_0_1
        (broadcastInDim S1024x1 ![0] bcast_S1024_S1024x1_0 (g3 m c : Vec Ideal S1024 .f32)) : Vec Ideal S1024x1024 .f32) := by
  show StableHlo.after hostOps0 (W0 m ρ c) (Proc.devRef .tc main_v5) = _
  after_results
theorem b1_eq : (V1 m ρ c main_v7 : S1024x1024.Idx → EReal)
    = (broadcastInDim S1024x1024 ![0, 1] bcast_S1024x1_S1024x1024_0_1
        (broadcastInDim S1024x1 ![0] bcast_S1024_S1024x1_0 (g5 m c : Vec Ideal S1024 .f32)) : Vec Ideal S1024x1024 .f32) := by
  show StableHlo.after hostOps0 (W0 m ρ c) (Proc.devRef .tc main_v7) = _
  after_results

theorem w0_at (k : Fin 1024) (p : Fin 256) : (V1 m ρ c main_v1 : S1024x256.Idx → EReal) (ix2 k p) = g2 m c (ix2 p k) := by
  rw [w0_eq]
  exact transpose_apply _ _ _ _ _ fun a => by
    match a with
    | ⟨0, _⟩ => rfl
    | ⟨1, _⟩ => rfl
theorem w1_at (k p : Fin 1024) : (V1 m ρ c main_v3 : S1024x1024.Idx → EReal) (ix2 k p) = g4 m c (ix2 p k) := by
  rw [w1_eq]
  exact transpose_apply _ _ _ _ _ fun a => by
    match a with
    | ⟨0, _⟩ => rfl
    | ⟨1, _⟩ => rfl
/-- A vector spread along the second axis, at an element. -/
theorem spread_at (g : Vec Ideal S1024 .f32) (k p : Fin 1024) :
    (broadcastInDim S1024x1024 ![0, 1] bcast_S1024x1_S1024x1024_0_1
        (broadcastInDim S1024x1 ![0] bcast_S1024_S1024x1_0 g) : Vec Ideal S1024x1024 .f32) (ix2 k p) = g (ix1 k) := by
  refine (broadcastInDim_apply _ _ _ _ (ix2 k (0 : Fin 1)) fun a => ?_).trans (broadcastInDim_apply _ _ _ _ (ix1 k) fun a => ?_)
  · match a with
    | ⟨0, _⟩ => show k.val = if (1024 : Nat) = 1 then 0 else k.val; rw [if_neg (by decide)]
    | ⟨1, _⟩ => rfl
  · match a with
    | ⟨0, _⟩ => show k.val = if (1024 : Nat) = 1 then 0 else k.val; rw [if_neg (by decide)]
theorem b0_at (k p : Fin 1024) : (V1 m ρ c main_v5 : S1024x1024.Idx → EReal) (ix2 k p) = g3 m c (ix1 k) := by
  rw [b0_eq]; exact spread_at _ k p
theorem b1_at (k p : Fin 1024) : (V1 m ρ c main_v7 : S1024x1024.Idx → EReal) (ix2 k p) = g5 m c (ix1 k) := by
  rw [b1_eq]; exact spread_at _ k p

/-- The first region's activations are the network's second hidden layer. -/
theorem hidden_at (k : Fin 1024) (b : Fin 16384) :
    Region0.GH (V1 m ρ) c (ix2 k b) = h2 (g0 m c) (g2 m c) (g3 m c) (g4 m c) (g5 m c) b k := by
  have e0 : (V1 m ρ c main_arg0 : S16384x256.Idx → EReal) = g0 m c := W1_args m ρ c main_arg0 (by decide)
  have hh (p : Fin 1024) : Region0.hid1 (V1 m ρ) c p b = h1 (g0 m c) (g2 m c) (g3 m c) b p := by
    refine congrArg₂ max (congrArg₂ (· + ·) (Finset.sum_congr rfl fun q _ => ?_) (b0_at m ρ c p _)) rfl
    exact (congrArg₂ (fun u v : EReal => u * v) (w0_at m ρ c p q) (congrFun e0 (ix2 b q))).trans (mul_comm _ _)
  refine congrArg₂ max (congrArg₂ (· + ·) (Finset.sum_congr rfl fun p _ => ?_) (b1_at m ρ c k _)) rfl
  exact (congrArg₂ (fun u v : EReal => u * v) (w1_at m ρ c k p) (hh p)).trans (mul_comm _ _)

/-! The second region's entry arrays. -/

theorem w2_eq : (V3 m ρ c main_v12 : S12032x1024.Idx → EReal)
    = shapeCast S12032x1024 (transpose S4x47x64x1024 [1, 3, 2, 0]
        (shapeCast S1024x4x64x47 (g6 m c : S1024x12032.Idx → EReal) shapeCasts_S1024x12032_S1024x4x64x47)
          transposes_S1024x4x64x47_S4x47x64x1024_1_3_2_0) shapeCasts_S4x47x64x1024_S12032x1024 := by
  have e : W2 m ρ c (Proc.devRef .tc main_arg6) = g6 m c := W2_args m ρ c main_arg6 (by decide)
  show StableHlo.after hostOps1 (W2 m ρ c) (Proc.devRef .tc main_v12) = _
  after_results
  rw [e]
  rfl
theorem b2_eq : (V3 m ρ c main_v17 : S12032x256.Idx → EReal)
    = (broadcastInDim S12032x256 ![0, 1] bcast_S12032x1_S12032x256_0_1
        (broadcastInDim S12032x1 ![0] bcast_S12032_S12032x1_0 (shapeCast S12032 (transpose S4x47x64 [0, 2, 1]
        (shapeCast S4x64x47 (g7 m c : Vec Ideal S12032 .f32) shapeCasts_S12032_S4x64x47)
          transposes_S4x64x47_S4x47x64_0_2_1) shapeCasts_S4x47x64_S12032)) : Vec Ideal S12032x256 .f32) := by
  have e : W2 m ρ c (Proc.devRef .tc main_arg7) = g7 m c := W2_args m ρ c main_arg7 (by decide)
  show StableHlo.after hostOps1 (W2 m ρ c) (Proc.devRef .tc main_v17) = _
  after_results
  rw [e]
  rfl

/-- The last layer's weights in the second region's order, at an element. -/
theorem order2_at (g : S1024x12032.Idx → EReal) (f : Fin 256) (j : ℕ) (k : Fin 1024) :
    shapeCast S12032x1024 (transpose S4x47x64x1024 [1, 3, 2, 0] (shapeCast S1024x4x64x47 g shapeCasts_S1024x12032_S1024x4x64x47)
          transposes_S1024x4x64x47_S4x47x64x1024_1_3_2_0) shapeCasts_S4x47x64x1024_S12032x1024 (ix2 (Region1.rowF f j) k)
      = g (ix2 k (col f j)) := by
  have hf := f.isLt
  have hj : j % 47 < 47 := Nat.mod_lt _ (by decide)
  generalize hA : shapeCast S1024x4x64x47 g shapeCasts_S1024x12032_S1024x4x64x47 = A
  generalize hB : transpose S4x47x64x1024 [1, 3, 2, 0] A transposes_S1024x4x64x47_S4x47x64x1024_1_3_2_0 = B
  refine (shapeCast_apply B shapeCasts_S4x47x64x1024_S12032x1024 (ix2 (Region1.rowF f j) k)
    (ix4 (⟨f.val / 64, by omega⟩ : Fin 4) (⟨j % 47, hj⟩ : Fin 47) (⟨f.val % 64, by omega⟩ : Fin 64) k) ?_).trans ?_
  · rw [Shape.rowMajor_val_two, Shape.rowMajor_val_four]
    show ((f.val / 64 * 47 + j % 47) * 64 + f.val % 64) * 1024 + k.val
      = (f.val / 64 * 3008 + (64 * (j % 47) + f.val % 64)) * 1024 + k.val
    omega
  rw [← hB]
  refine (transpose_apply _ _ _ _ (ix4 k (⟨f.val / 64, by omega⟩ : Fin 4) (⟨f.val % 64, by omega⟩ : Fin 64) (⟨j % 47, hj⟩ : Fin 47)) fun a => ?_).trans ?_
  · match a with
    | ⟨0, _⟩ => rfl
    | ⟨1, _⟩ => rfl
    | ⟨2, _⟩ => rfl
    | ⟨3, _⟩ => rfl
  rw [← hA]
  refine shapeCast_apply g _ _ _ ?_
  rw [Shape.rowMajor_val_two, Shape.rowMajor_val_four]
  show k.val * 12032 + (f.val * 47 + j % 47) = ((k.val * 4 + f.val / 64) * 64 + f.val % 64) * 47 + j % 47
  omega
theorem w2_at (f : Fin 256) (j : ℕ) (k : Fin 1024) :
    (V3 m ρ c main_v12 : S12032x1024.Idx → EReal) (ix2 (Region1.rowF f j) k) = g6 m c (ix2 k (col f j)) :=
  (congrFun (w2_eq m ρ c) _).trans (order2_at (g6 m c) f j k)
theorem b2_at (f : Fin 256) (j : ℕ) (l : Fin 256) :
    (V3 m ρ c main_v17 : S12032x256.Idx → EReal) (ix2 (Region1.rowF f j) l) = g7 m c (ix1 (col f j)) := by
  have hf := f.isLt
  have hj : j % 47 < 47 := Nat.mod_lt _ (by decide)
  rw [b2_eq]
  refine (broadcastInDim_apply _ _ _ _ (ix2 (Region1.rowF f j) (0 : Fin 1)) fun a => ?_).trans ?_
  · match a with
    | ⟨0, _⟩ => show (Region1.rowF f j).val = if (12032 : Nat) = 1 then 0 else (Region1.rowF f j).val; rw [if_neg (by decide)]
    | ⟨1, _⟩ => rfl
  refine (broadcastInDim_apply _ _ _ _ (ix1 (Region1.rowF f j)) fun a => ?_).trans ?_
  · match a with
    | ⟨0, _⟩ => show (Region1.rowF f j).val = if (12032 : Nat) = 1 then 0 else (Region1.rowF f j).val; rw [if_neg (by decide)]
  refine (shapeCast_apply _ shapeCasts_S4x47x64_S12032 (ix1 (Region1.rowF f j)) (ix3 (⟨f.val / 64, by omega⟩ : Fin 4) (⟨j % 47, hj⟩ : Fin 47) (⟨f.val % 64, by omega⟩ : Fin 64)) ?_).trans ?_
  · rw [Shape.rowMajor_val_one, Shape.rowMajor_val_three]
    show (f.val / 64 * 47 + j % 47) * 64 + f.val % 64 = f.val / 64 * 3008 + (64 * (j % 47) + f.val % 64)
    omega
  refine (transpose_apply _ _ _ _ (ix3 (⟨f.val / 64, by omega⟩ : Fin 4) (⟨f.val % 64, by omega⟩ : Fin 64) (⟨j % 47, hj⟩ : Fin 47)) fun a => ?_).trans ?_
  · match a with
    | ⟨0, _⟩ => rfl
    | ⟨1, _⟩ => rfl
    | ⟨2, _⟩ => rfl
  refine shapeCast_apply _ _ _ _ ?_
  rw [Shape.rowMajor_val_one, Shape.rowMajor_val_three]
  show f.val * 47 + j % 47 = (f.val / 64 * 64 + f.val % 64) * 47 + j % 47
  omega

/-- The activations and the transposed inputs as the second region finds them. -/
theorem hid_in : (V3 m ρ c main_v8_0 : S1024x16384.Idx → EReal) = Region0.GH (V1 m ρ) c :=
  ((W3_of m ρ c main_v8_0 (by decide)).trans (W2_arr m ρ c 6)).trans (Region0.arrH (V1 m ρ) c)
theorem x_in : (V3 m ρ c main_v8_1 : S256x16384.Idx → EReal) = Region0.GX (V1 m ρ) c :=
  ((W3_of m ρ c main_v8_1 (by decide)).trans (W2_arr m ρ c 7)).trans (Region0.arrX (V1 m ρ) c)

/-- The second region's parameters are the numbers the network gives. -/
theorem parA_eq (f : Fin 256) (b : Fin 16384) :
    Region1.parA (Region1.aH (V3 m ρ) c) (Region1.aW (V3 m ρ) c) (Region1.aB (V3 m ρ) c) f b = prm m c b f := by
  funext j
  refine congrArg₂ (· + ·) (Finset.sum_congr rfl fun k _ => ?_) (b2_at m ρ c f j _)
  exact (congrArg₂ (fun u v : EReal => u * v) (w2_at m ρ c f j k)
    ((congrFun (hid_in m ρ c) (ix2 k b)).trans (hidden_at m ρ c k b))).trans (mul_comm _ _)
/-- The second region's input at an element. -/
theorem aX_eq (f : Fin 256) (b : Fin 16384) : Region1.aX (V3 m ρ) c (ix2 f b) = g1 m c (ix2 b f) := by
  refine (congrFun (x_in m ρ c) (ix2 f b)).trans ?_
  exact congrFun (W1_args m ρ c main_arg1 (by decide)) (ix2 b f)

variable (hreal : ∀ b f, IsReal (prm m c b f))
include hreal

/-- What the second region leaves, as mathematics of the argument arrays. -/
theorem y_at (f : Fin 256) (b : Fin 16384) :
    (W4 m ρ c (Proc.devRef .tc main_v18_0) : S256x16384.Idx → EReal) (ix2 f b) = outYE (prm m c b f) (g1 m c (ix2 b f)) := by
  refine (congrFun ((W4_arr m ρ c 4).trans (Region1.arrY (V3 m ρ) c fun f b => by rw [parA_eq]; exact hreal b f)) (ix2 f b)).trans ?_
  show outYE (Region1.parA _ _ _ f b) _ = _
  rw [parA_eq, aX_eq]
theorem s_at (g : Fin 4) (b : Fin 16384) :
    (W4 m ρ c (Proc.devRef .tc main_v18_1) : S4x1x16384.Idx → EReal) (ix3 g (0 : Fin 1) b)
      = ∑ a : Fin 64, outLE (prm m c b ⟨g.val * 64 + a.val, by have := g.isLt; have := a.isLt; omega⟩)
          (g1 m c (ix2 b ⟨g.val * 64 + a.val, by have := g.isLt; have := a.isLt; omega⟩)) := by
  refine (congrFun ((W4_arr m ρ c 5).trans (Region1.arrS (V3 m ρ) c fun f b => by rw [parA_eq]; exact hreal b f)) (ix3 g (0 : Fin 1) b)).trans ?_
  refine Finset.sum_congr (M := EReal) rfl fun a _ => ?_
  refine (congrArg₂ outLE (parA_eq m ρ c _ b) (aX_eq m ρ c _ b))

/-- The kernel's first result is the transformed inputs. -/
theorem res0 : (W5 m ρ c (Proc.devRef .tc main_v19) : S16384x256.Idx → EReal)
    = result (g0 m c) (g2 m c) (g3 m c) (g4 m c) (g5 m c) (g6 m c) (g7 m c) (g1 m c) := by
  have e : (W5 m ρ c (Proc.devRef .tc main_v19) : S16384x256.Idx → EReal)
      = transpose S16384x256 [1, 0] (W4 m ρ c (Proc.devRef .tc main_v18_0) : Vec Ideal S256x16384 .f32) transposes_S256x16384_S16384x256_1_0 := by
    show StableHlo.after hostOps2 (W4 m ρ c) (Proc.devRef .tc main_v19) = _
    after_results
  rw [e]
  funext i
  obtain ⟨b, f, rfl⟩ : ∃ (b : Fin 16384) (f : Fin 256), i = ix2 b f := ⟨i 0, i 1, eq_ix2 i⟩
  refine (transpose_apply _ _ _ _ (ix2 f b) fun a => ?_).trans (y_at m ρ c hreal f b)
  match a with
  | ⟨0, _⟩ => rfl
  | ⟨1, _⟩ => rfl

omit hreal in
/-- A sum over the features, group by group. -/
theorem sum_groups (F : Fin 256 → EReal) :
    ∑ g : Fin 4, ∑ a : Fin 64, F ⟨g.val * 64 + a.val, by have := g.isLt; have := a.isLt; omega⟩ = ∑ f : Fin 256, F f := by
  rw [← (finProdFinEquiv (m := 4) (n := 64)).sum_comp F, Fintype.sum_prod_type]
  refine Finset.sum_congr rfl fun g _ => Finset.sum_congr rfl fun a _ => congrArg F (Fin.ext ?_)
  show g.val * 64 + a.val = a.val + 64 * g.val
  omega

omit hreal in
/-- The sum of a four-row array over its first two axes, at an element. -/
theorem rowsum_at (v : S4x1x16384.Idx → EReal) (b : Fin 16384) :
    Host.reduceAdd (F := Ideal) (φ := .f32) v (constant (F := Ideal) S_ .f32 0x00000000#32) reducesTo_S4x1x16384_S16384_d0_1 h_S_ (ix1 b)
      = ∑ g : Fin 4, v (ix3 g (0 : Fin 1) b) := by
  refine (congrArg₂ (fun u w : EReal => u + w) (bits_zero.trans EReal.coe_zero) ?_).trans (zero_add _)
  refine Finset.sum_filter_eq_sum_of_fiber _ (fun g : Fin 4 => (ix3 g (0 : Fin 1) b : S4x1x16384.Idx)) (fun _ _ e => congrFun e 0) (fun i => ?_) v
  constructor
  · intro e
    refine ⟨i 0, ?_⟩
    funext a; apply Fin.ext
    match a with
    | ⟨0, _⟩ => rfl
    | ⟨1, _⟩ => have h : (i 1).val < 1 := (i 1).isLt; show 0 = (i 1).val; omega
    | ⟨2, _⟩ => exact (congrArg Fin.val (congrFun e 0)).symm
  · rintro ⟨k, rfl⟩
    funext a; apply Fin.ext
    match a with
    | ⟨0, _⟩ => rfl

/-- The kernel's second result is the logarithm of each sample's Jacobian determinant. -/
theorem res1 : (W5 m ρ c (Proc.devRef .tc main_v20) : S16384.Idx → EReal)
    = logdet (g0 m c) (g2 m c) (g3 m c) (g4 m c) (g5 m c) (g6 m c) (g7 m c) (g1 m c) := by
  have e : (W5 m ρ c (Proc.devRef .tc main_v20) : S16384.Idx → EReal)
      = Host.reduceAdd (F := Ideal) (W4 m ρ c (Proc.devRef .tc main_v18_1) : Vec Ideal S4x1x16384 .f32)
          (constant (F := Ideal) S_ .f32 0x00000000#32) reducesTo_S4x1x16384_S16384_d0_1 h_S_ := by
    show StableHlo.after hostOps2 (W4 m ρ c) (Proc.devRef .tc main_v20) = _
    after_results
  rw [e]
  funext i
  obtain ⟨b, rfl⟩ : ∃ (b : Fin 16384), i = ix1 b := ⟨i 0, eq_ix1 i⟩
  refine (rowsum_at _ b).trans ?_
  refine (Finset.sum_congr (M := EReal) rfl fun g _ => s_at m ρ c hreal g b).trans ?_
  exact sum_groups fun f => outLE (prm m c b f) (g1 m c (ix2 b f))

end Cert.Proof.HostValue

end
-- ==== Proof.KernelRun.lean ====
/- The kernel's run with its two results: every weakly fair execution ends with the result arrays at the contents the
   host operations after the second region leave, and the arguments as launched. -/
module

public import proofs.«01_k».proof.Proof.Host

@[expose] public section

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.HostValue Cert.Proof.Block Cert.Proof.Network

variable (m : (ℓ : Loc nD τ sig) → Buf (Elt Ideal) ℓ) (ρ : Dev nD → PrngReg)

-- the launch's arguments are found by unifying its conclusion with this one
set_option backward.isDefEq.respectTransparency.types false in
/-- Every buffer of the tensor cores ends at the contents the last host stretch leaves. -/
theorem buffers : θ_run defs (onTc (τ := τ) (main (F := Ideal))) ⟨m, fun _ => 0, ρ⟩
    (fun r => ∀ c : Dev nD, ∀ b ∈ Pipeline.ucRefs τ sig, r.2.mem ((c : Dev nD), b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The kernel leaves the transformed inputs and the logarithms of the Jacobian determinants of the argument arrays,
    and its arguments as launched, when the network gives real numbers. -/
theorem results (hreal : ∀ c b f, IsReal (prm m c b f)) :
    θ_run defs (onTc (τ := τ) (main (F := Ideal))) ⟨m, fun _ => 0, ρ⟩ (fun r => ∀ c : Dev nD,
      r.2.mem ((c.tc : Thread nD τ).loc main_v19)
          = result (g0 m c) (g2 m c) (g3 m c) (g4 m c) (g5 m c) (g6 m c) (g7 m c) (g1 m c)
      ∧ r.2.mem ((c.tc : Thread nD τ).loc main_v20)
          = logdet (g0 m c) (g2 m c) (g3 m c) (g4 m c) (g5 m c) (g6 m c) (g7 m c) (g1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v19 (by decide))).trans (res0 m ρ c (hreal c)),
     (h c _ (mem_uc main_v20 (by decide))).trans (res1 m ρ c (hreal c)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (buffers m ρ)

end Cert.Proof.KernelRun

end
-- ==== Proof.RefNet.lean ====
/- The reference's network: its last linear layer, laid out as 47 numbers per feature, holds the network's numbers. -/
module

public import proofs.«01_k».proof.Proof.Gen.ReferenceIdeal.Read
public import proofs.«01_k».proof.Proof.Network

@[expose] public section

noncomputable section

namespace Cert.Proof.RefNet

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts
open scoped BigOperators

variable (x0 : (⟨S16384x256, .f32⟩ : BufTy).Contents (Elt Ideal)) (x2 : (⟨S256x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x12032, .f32⟩ : BufTy).Contents (Elt Ideal))
  (x7 : (⟨S12032, .f32⟩ : BufTy).Contents (Elt Ideal))

/-- A broadcast zero reads zero. -/
theorem zero_apply {t : Shape} (h : S_.BroadcastsInDim t ![]) (i : t.Idx) :
    broadcastInDim t ![] h (constant (F := Ideal) S_ .f32 0x00000000#32) i = (0 : EReal) := by
  rw [broadcastInDim_scalar_apply]; exact bits_zero.trans EReal.coe_zero

/-- The first hidden layer. -/
theorem layer1 (b : Fin 16384) (k : Fin 1024) : val_main_v5 (F := Ideal) x0 x2 x3 (ix2 b k) = h1 x0 x2 x3 b k := by
  rw [val_main_v5_apply, val_main_v4_apply, val_main_v1_apply, val_main_v3_apply, val_main_v2_apply]
  unfold val_main_call0_v0 val_main_call0_cst
  rw [zero_apply]
  refine congrArg (fun u : EReal => max u 0) (congrArg₂ (fun u v : EReal => u + v)
    (Finset.sum_congr (M := EReal) rfl fun p _ => congrArg₂ (fun u v : EReal => u * v) ?_ ?_) ?_)
  · exact congrArg x0 (funext fun a => by match a with | ⟨0, _⟩ => rfl | ⟨1, _⟩ => rfl)
  · exact congrArg x2 (funext fun a => by match a with | ⟨0, _⟩ => rfl | ⟨1, _⟩ => rfl)
  · exact congrArg x3 (funext fun a => by match a with | ⟨0, _⟩ => rfl)

/-- The second hidden layer. -/
theorem layer2 (b : Fin 16384) (k : Fin 1024) :
    val_main_v10 (F := Ideal) x0 x2 x3 x4 x5 (ix2 b k) = h2 x0 x2 x3 x4 x5 b k := by
  rw [val_main_v10_apply, val_main_v9_apply, val_main_v6_apply, val_main_v8_apply, val_main_v7_apply]
  unfold val_main_call1_v0 val_main_call1_cst
  rw [zero_apply]
  refine congrArg (fun u : EReal => max u 0) (congrArg₂ (fun u v : EReal => u + v)
    (Finset.sum_congr (M := EReal) rfl fun p _ => congrArg₂ (fun u v : EReal => u * v) ?_ ?_) ?_)
  · refine Eq.trans (congrArg _ (funext fun a => ?_)) (layer1 x0 x2 x3 b p)
    match a with | ⟨0, _⟩ => rfl | ⟨1, _⟩ => rfl
  · exact congrArg x4 (funext fun a => by match a with | ⟨0, _⟩ => rfl | ⟨1, _⟩ => rfl)
  · exact congrArg x5 (funext fun a => by match a with | ⟨0, _⟩ => rfl)

/-- The last layer at a column. -/
theorem layer3 (b : Fin 16384) (c : Fin 12032) : val_main_v14 (F := Ideal) x0 x2 x3 x4 x5 x6 x7 (ix2 b c)
    = (∑ k : Fin 1024, h2 x0 x2 x3 x4 x5 b k * (x6 (ix2 k c) : EReal)) + x7 (ix1 c) := by
  rw [val_main_v14_apply, val_main_v11_apply, val_main_v13_apply, val_main_v12_apply]
  refine congrArg₂ (fun u v : EReal => u + v)
    (Finset.sum_congr (M := EReal) rfl fun p _ => congrArg₂ (fun u v : EReal => u * v) ?_ ?_) ?_
  · refine Eq.trans (congrArg _ (funext fun a => ?_)) (layer2 x0 x2 x3 x4 x5 b p)
    match a with | ⟨0, _⟩ => rfl | ⟨1, _⟩ => rfl
  · exact congrArg x6 (funext fun a => by match a with | ⟨0, _⟩ => rfl | ⟨1, _⟩ => rfl)
  · exact congrArg x7 (funext fun a => by match a with | ⟨0, _⟩ => rfl)

/-- The last layer laid out as 47 numbers per feature. -/
theorem numbers (b : Fin 16384) (f : Fin 256) (j : Fin 47) :
    val_main_v15 (F := Ideal) x0 x2 x3 x4 x5 x6 x7 (ix3 b f j) = param x0 x2 x3 x4 x5 x6 x7 b f j.val := by
  have hf := f.isLt; have hj := j.isLt; have hb := b.isLt
  rw [val_main_v15_apply]
  refine Eq.trans (congrArg _ (?_ : _ = ix2 b (col f j.val))) (layer3 x0 x2 x3 x4 x5 x6 x7 b _)
  funext a
  match a with
  | ⟨0, _⟩ => exact Fin.ext (show ((b.val * 256 + f.val) * 47 + j.val) / 12032 = b.val by omega)
  | ⟨1, _⟩ => exact Fin.ext (show ((b.val * 256 + f.val) * 47 + j.val) % 12032 = f.val * 47 + j.val % 47 by omega)

/-- The sixteen numbers for the widths. -/
theorem numbers_w (b : Fin 16384) (f : Fin 256) (j : Fin 16) :
    val_main_v16 (F := Ideal) x0 x2 x3 x4 x5 x6 x7 (ix3 b f j) = param x0 x2 x3 x4 x5 x6 x7 b f j.val := by
  rw [val_main_v16_apply]
  refine Eq.trans (congrArg _ (funext fun a => ?_)) (numbers x0 x2 x3 x4 x5 x6 x7 b f ⟨j.val, by omega⟩)
  match a with | ⟨0, _⟩ => rfl | ⟨1, _⟩ => rfl | ⟨2, _⟩ => rfl
/-- The sixteen numbers for the heights. -/
theorem numbers_h (b : Fin 16384) (f : Fin 256) (j : Fin 16) :
    val_main_v17 (F := Ideal) x0 x2 x3 x4 x5 x6 x7 (ix3 b f j) = param x0 x2 x3 x4 x5 x6 x7 b f (16 + j.val) := by
  rw [val_main_v17_apply]
  refine Eq.trans (congrArg _ (funext fun a => ?_)) (numbers x0 x2 x3 x4 x5 x6 x7 b f ⟨16 + j.val, by omega⟩)
  match a with | ⟨0, _⟩ => rfl | ⟨1, _⟩ => rfl | ⟨2, _⟩ => rfl
/-- The fifteen numbers for the slopes. -/
theorem numbers_s (b : Fin 16384) (f : Fin 256) (j : Fin 15) :
    val_main_v18 (F := Ideal) x0 x2 x3 x4 x5 x6 x7 (ix3 b f j) = param x0 x2 x3 x4 x5 x6 x7 b f (32 + j.val) := by
  rw [val_main_v18_apply]
  refine Eq.trans (congrArg _ (funext fun a => ?_)) (numbers x0 x2 x3 x4 x5 x6 x7 b f ⟨32 + j.val, by omega⟩)
  match a with | ⟨0, _⟩ => rfl | ⟨1, _⟩ => rfl | ⟨2, _⟩ => rfl

end Cert.Proof.RefNet

end
-- ==== Proof.RefMath.lean ====
/- Facts on real numbers, on the maximum of a row and on sums over a window that the reference's spline needs. -/
module

public import proofs.«01_k».proof.Proof.Network

@[expose] public section

noncomputable section

namespace Cert.Proof.RefMath

open Finset Cert.Proof.SplineReal Cert.Proof.Network
open Idealize.ShloMosaic

/-- The greatest of finitely many real numbers, begun at −∞, is real. -/
theorem fold_max_real {n : ℕ} (hn : 0 < n) (f : Fin n → EReal) (h : ∀ i, Fin' (f i)) :
    Fin' ((univ : Finset (Fin n)).fold max ⊥ f) := by
  have hb : ⊥ < (univ : Finset (Fin n)).fold max ⊥ f := by
    rw [Finset.lt_fold_max]
    obtain ⟨r, hr⟩ := h ⟨0, hn⟩
    exact Or.inr ⟨⟨0, hn⟩, mem_univ _, by rw [hr]; exact EReal.bot_lt_coe r⟩
  have ht : (univ : Finset (Fin n)).fold max ⊥ f < ⊤ := by
    rw [Finset.fold_max_lt]
    exact ⟨bot_lt_top, fun i _ => by obtain ⟨r, hr⟩ := h i; rw [hr]; exact EReal.coe_lt_top r⟩
  exact ⟨_, (EReal.coe_toReal ht.ne hb.ne').symm⟩

/-- Shifting every exponent by the same number doesn't change the shares. -/
theorem share_shift (r : Fin 16 → ℝ) (M : ℝ) (k : Fin 16) :
    Real.exp (r k - M) * (1 / ∑ j, Real.exp (r j - M)) = Real.exp (r k) * (1 / ∑ j, Real.exp (r j)) := by
  have hs : 0 < ∑ j, Real.exp (r j) := sum_pos (fun _ _ => Real.exp_pos _) ⟨k, mem_univ _⟩
  have hM := (Real.exp_pos M).ne'
  simp only [Real.exp_sub, ← sum_div]
  field_simp

/-- A share of the reference: a thousandth, and the rest shared out by the exponentials. -/
def share (q : ℕ → ℝ) (o k : ℕ) : ℝ := 1 / 1000 + 123 / 125 * (Real.exp (q (o + k)) * (1 / expSum q o))

/-- Six times the shares before a knot, less three, is the knot. -/
theorem knot_share (q : ℕ → ℝ) (o k : ℕ) : 6 * (∑ j ∈ range k, share q o j) - 3 = knot q o k := by
  unfold knot
  rw [mul_sum, sub_eq_neg_add]
  refine congrArg (-3 + ·) (sum_congr rfl fun j _ => ?_)
  unfold share bin; ring

/-- The reference's softplus. -/
theorem softplus (v : ℝ) : max v 0 + Real.log (1 + Real.exp (-(max v (-v)))) = Real.log (1 + Real.exp v) := by
  rcases le_total 0 v with h | h
  · rw [max_eq_left h, max_eq_left (by linarith)]
    have e : 1 + Real.exp v = Real.exp v * (1 + Real.exp (-v)) := by
      rw [mul_add, ← Real.exp_add]; simp; ring
    rw [e, Real.log_mul (Real.exp_pos v).ne' (by positivity), Real.log_exp]
  · rw [max_eq_right h, max_eq_right (by linarith)]; simp

/-- The end slopes are one. -/
theorem softplus_end : 1 / 1000 + Real.log (1 + Real.exp (Real.log (Real.exp (999 / 1000) - 1))) = (1 : ℝ) := by
  have h : (1 : ℝ) < Real.exp (999 / 1000) := by rw [Real.one_lt_exp_iff]; norm_num
  rw [Real.exp_log (by linarith), show 1 + (Real.exp (999 / 1000) - 1) = Real.exp (999 / 1000) by ring, Real.log_exp]
  norm_num

/-- A left fold of sums is the first value plus the sum. -/
theorem foldl_add {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- A window of sixteen ending at `k`, outside the row zero, sums the row up to `k`. -/
theorem window_sum (G : ℕ → EReal) {k : ℕ} (hk : k < 16) :
    ∑ i : Fin 16, (if 15 ≤ k + i.val then G (k + i.val - 15) else 0) = ∑ j ∈ range (k + 1), G j := by
  rw [Fin.sum_univ_eq_sum_range (fun i => if 15 ≤ k + i then G (k + i - 15) else 0),
    show 16 = (15 - k) + (k + 1) by omega, sum_range_add]
  rw [sum_eq_zero (fun i hi => if_neg (by have := mem_range.mp hi; omega)), zero_add]
  refine sum_congr rfl fun i hi => ?_
  rw [if_pos (by omega)]
  exact congrArg G (by omega)

/-- Ones and zeros added as 32-bit words count. -/
theorem fold_count {n : ℕ} (p : Fin n → Prop) [DecidablePred p] (s : Finset (Fin n)) (g : Fin n → BitVec 32)
    (hg : ∀ i, g i = if p i then 1#32 else 0#32) :
    s.fold IntOp.addi 0#32 g = BitVec.ofNat 32 (s.filter p).card := by
  induction s using Finset.induction_on with
  | empty => rfl
  | insert a s ha ih =>
    rw [fold_insert ha, ih, hg, filter_insert]
    by_cases h : p a
    · rw [if_pos h, if_pos h, card_insert_of_notMem (by simp [ha]), IntOp.addi_eq_add, Nat.add_comm, BitVec.ofNat_add]
    · rw [if_neg h, if_neg h, IntOp.addi_eq_add]; simp

/-- How many inner knots are not above the input, counted over fifteen. -/
theorem binOf_fin (q : ℕ → ℝ) (t : ℝ) :
    ((univ : Finset (Fin 15)).filter fun k : Fin 15 => knot q 0 (k.val + 1) ≤ t).card = binOf q t := by
  unfold binOf
  rw [card_filter, card_filter, ← Fin.sum_univ_eq_sum_range (fun k => if knot q 0 (k + 1) ≤ t then 1 else 0)]

end Cert.Proof.RefMath

end
-- ==== Proof.RefShare.lean ====
/- The reference's shares and knots as functions of an array of sixteen numbers per feature: a row's maximum, the
   exponentials less it, their sum, the shares, the running sums and the knots. -/
module

public import proofs.«01_k».proof.Proof.RefNet
public import proofs.«01_k».proof.Proof.RefMath
public import Idealize.ShloMosaic.Lib.Pointwise.Reduce

@[expose] public section

noncomputable section

namespace Cert.Proof.RefShare

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts Cert.Proof.SplineReal Cert.Proof.RefMath
open scoped BigOperators

section At
variable {s : Shape} (x y : FVec Ideal s .f32) (i : s.Idx)
/-! Each operation of arrays at one element, over the extended reals. -/
theorem at_add : addf x y i = (x i + y i : EReal) := rfl
theorem at_sub : subf x y i = (x i - y i : EReal) := rfl
theorem at_mul : mulf x y i = (x i * y i : EReal) := rfl
theorem at_max : maximumf x y i = (max (x i) (y i) : EReal) := rfl
theorem at_min : minimumf x y i = (min (x i) (y i) : EReal) := rfl
theorem at_div : Host.divf x y i = Ideal.div (x i) (y i) := rfl
theorem at_exp : Host.exp x i = Ideal.exp (x i) := rfl
theorem at_log : Host.log x i = Ideal.log (x i) := rfl
theorem at_log1p : Host.log1p x i = Ideal.log (1 + x i) := rfl
theorem at_abs : Host.absf x i = (max (x i) (-(x i)) : EReal) := rfl
theorem at_neg : Host.negf x i = (-(x i) : EReal) := rfl
theorem at_window {t u : Shape} (window strides lo hi : Fin s.rank → ℕ) (init : FVec Ideal u .f32)
    (h : s.ReduceWindows window strides lo hi t) (hu : 0 < u.numel) (j : t.Idx) :
    Host.reduceWindowAdd window strides lo hi x init h hu j
      = Ideal.hostReduceWindowAdd window strides lo hi h x (init (Shape.Idx.first hu)) j := rfl
theorem at_const (w : BitVec 32) : constant (F := Ideal) s .f32 w i = Ideal.ofBits .f32 w := rfl
end At

/-- The greatest of real numbers, by the reduction's own operation, is real. -/
theorem fold_max_real' {n : ℕ} (hn : 0 < n) (f : Fin n → Ideal .f32) (h : ∀ i, Fin' (f i)) :
    Fin' ((Finset.univ : Finset (Fin n)).fold (FloatOps.maximumf (F := Ideal) (φ := .f32)) (⊥ : EReal) f) :=
  fold_max_real hn f h

/-- An array of one number per sample and feature. -/
abbrev A2 := FVec Ideal S16384x256 .f32
/-- An array of one row of sixteen per sample and feature. -/
abbrev A16 := FVec Ideal S16384x256x16 .f32
/-- An array of one row of seventeen per sample and feature. -/
abbrev A17 := FVec Ideal S16384x256x17 .f32

/-- One number of a sample and feature at every place of its row. -/
def spread {n : ℕ} {α : Type} (h : S16384x256x1.BroadcastsInDim (⟨3, ![16384, 256, n]⟩ : Shape) ![0, 1, 2])
    (y : S16384x256.Idx → α) : (⟨3, ![16384, 256, n]⟩ : Shape).Idx → α :=
  broadcastInDim _ ![0, 1, 2] h (broadcastInDim S16384x256x1 ![0, 1] bcast_S16384x256_S16384x256x1_0_1 y)

theorem unit_apply {α : Type} (y : S16384x256.Idx → α) (b : Fin 16384) (f : Fin 256) (z : Fin 1) :
    broadcastInDim S16384x256x1 ![0, 1] bcast_S16384x256_S16384x256x1_0_1 y (ix3 b f z) = y (ix2 b f) :=
  broadcastInDim_apply _ _ _ _ _ fun a => by match a with | ⟨0, _⟩ => rfl | ⟨1, _⟩ => rfl

theorem spread_apply {n : ℕ} {α : Type} (h : S16384x256x1.BroadcastsInDim (⟨3, ![16384, 256, n]⟩ : Shape) ![0, 1, 2])
    (y : S16384x256.Idx → α) (b : Fin 16384) (f : Fin 256) (k : Fin n) : spread h y (ix3 b f k) = y (ix2 b f) := by
  unfold spread
  refine (broadcastInDim_apply _ _ _ _ (ix3 b f (0 : Fin 1)) fun a => ?_).trans (unit_apply y b f 0)
  match a with | ⟨0, _⟩ => rfl | ⟨1, _⟩ => rfl | ⟨2, _⟩ => rfl

/-- A constant at every place reads the constant. -/
theorem const_apply {t : Shape} (h : S_.BroadcastsInDim t ![]) (w : BitVec 32) (i : t.Idx) :
    broadcastInDim t ![] h (constant (F := Ideal) S_ .f32 w) i = Ideal.ofBits .f32 w := by
  rw [broadcastInDim_scalar_apply]; rfl

/-- One thousandth, as the reference spells it. -/
def minVal : FVec Ideal S_ .f32 := Host.divf (constant S_ .f32 0x3F800000#32) (constant S_ .f32 0x447A0000#32)

theorem minVal_apply (i : S_.Idx) : minVal i = ((1 / 1000 : ℝ) : EReal) := by
  unfold minVal
  rw [at_div, at_const, at_const, bits_one, bits_thousand, div_real (by norm_num), one_mul]

/-- What sixteen thousandths leave of one. -/
def restVal : FVec Ideal S_ .f32 := subf (constant S_ .f32 0x3F800000#32) (mulf (constant S_ .f32 0x41800000#32) minVal)

theorem restVal_apply (i : S_.Idx) : restVal i = ((1 - 16 * (1 / 1000) : ℝ) : EReal) := by
  unfold restVal
  rw [at_sub, at_mul, at_const, at_const, minVal_apply, bits_one, bits_sixteen, ← EReal.coe_mul, ← EReal.coe_sub]

/-- Each row's maximum. -/
def rowMax (z : A16) : A2 :=
  maximumf (broadcastInDim S16384x256 ![] bcast_S_S16384x256 (constant S_ .f32 0xFF800000#32))
    (Host.reduce (α := Ideal .f32) FloatOps.maximumf z (constant S_ .f32 0xFF800000#32) reducesTo_S16384x256x16_S16384x256_d2 h_S_)

theorem redw : S16384x256x16.Reduces [2] S16384x256 := by decide

/-- The maximum of real numbers is real. -/
theorem rowMax_real (z : A16) (hz : ∀ i, Fin' (z i)) (i : S16384x256.Idx) : Fin' (rowMax z i) := by
  unfold rowMax
  rw [at_max, const_apply, bits_neg_inf, max_eq_right bot_le]
  rw [Host.reduce_eq_fold_single (α := Ideal .f32) FloatOps.maximumf z _ _ redw h_S_, at_const, bits_neg_inf]
  exact fold_max_real' (n := 16) (by decide) _ fun k => hz _

/-- The exponentials of a row less its maximum. -/
def rowExp (z : A16) : A16 :=
  Host.exp (subf z (spread bcast_S16384x256x1_S16384x256x16_0_1_2 (rowMax z)))

/-- Each row of exponentials summed. -/
def rowSum (z : A16) : A2 :=
  Host.reduceAdd (rowExp z) (constant S_ .f32 0x00000000#32) reducesTo_S16384x256x16_S16384x256_d2 h_S_

/-- The shares: a thousandth, and the rest shared out by the exponentials. -/
def shares (z : A16) : A16 :=
  addf (broadcastInDim S16384x256x16 ![] bcast_S_S16384x256x16 minVal)
    (mulf (broadcastInDim S16384x256x16 ![] bcast_S_S16384x256x16
        restVal)
      (Host.divf (rowExp z) (spread bcast_S16384x256x1_S16384x256x16_0_1_2 (rowSum z))))

variable (z : A16) (q : Fin 16384 → Fin 256 → ℕ → ℝ) (o : ℕ)
  (hz : ∀ b f (k : Fin 16), z (ix3 b f k) = ((q b f (o + k.val) : ℝ) : EReal))

include hz in
/-- A share as a real number. -/
theorem shares_apply (b : Fin 16384) (f : Fin 256) (k : Fin 16) :
    shares z (ix3 b f k) = ((share (q b f) o k.val : ℝ) : EReal) := by
  obtain ⟨M, hM⟩ := rowMax_real z (fun i => by rw [eq_ix3 i]; exact ⟨_, hz _ _ _⟩) (ix2 b f)
  have he : ∀ j : Fin 16, rowExp z (ix3 b f j) = ((Real.exp (q b f (o + j.val) - M) : ℝ) : EReal) := fun j => by
    unfold rowExp; rw [at_exp, at_sub, spread_apply, hM, hz, ← EReal.coe_sub, exp_real]
  have hs : rowSum z (ix2 b f) = ((∑ j : Fin 16, Real.exp (q b f (o + j.val) - M) : ℝ) : EReal) := by
    unfold rowSum
    rw [hostReduceAdd_apply, at_const]
    generalize hE : rowExp z = E at he ⊢
    unfold Ideal.hostReduceAdd
    rw [bits_zero, EReal.coe_zero, zero_add, Shape.ReducesTo.sum_fiber_r3_a2, coe_sum]
    exact Finset.sum_congr rfl fun j _ => he j
  have hpos : (∑ j : Fin 16, Real.exp (q b f (o + j.val) - M)) ≠ 0 :=
    (Finset.sum_pos (fun _ _ => Real.exp_pos _) ⟨k, Finset.mem_univ _⟩).ne'
  unfold shares
  rw [at_add, at_mul, at_div, spread_apply, he, hs, div_real hpos, broadcastInDim_scalar_apply, broadcastInDim_scalar_apply]
  rw [minVal_apply, restVal_apply, ← EReal.coe_mul, ← EReal.coe_add]
  rw [share_shift (fun j : Fin 16 => q b f (o + j.val)) M k]
  unfold share expSum
  rw [Fin.sum_univ_eq_sum_range (fun j => Real.exp (q b f (o + j)))]
  norm_num

/-- The running sums along each row. -/
def runSum (w : A16) : A16 :=
  Host.reduceWindowAdd ![1, 1, 16] ![1, 1, 1] ![0, 0, 15] ![0, 0, 0] w
    (broadcastInDim S_ ![] bcast_S_S_ (constant S_ .f32 0x00000000#32))
    reduceWindows_S16384x256x16_S16384x256x16_w1s1p0_0_w1s1p0_0_w16s1p15_0 h_S_

/-- The indices of a window of one by one by sixteen. -/
def winEquiv : (⟨3, ![1, 1, 16]⟩ : Shape).Idx ≃ Fin 16 where
  toFun i := i 2
  invFun k := ix3 (0 : Fin 1) (0 : Fin 1) k
  left_inv i := by
    funext a
    match a with
    | ⟨0, _⟩ => exact Subsingleton.elim (α := Fin 1) _ _
    | ⟨1, _⟩ => exact Subsingleton.elim (α := Fin 1) _ _
    | ⟨2, _⟩ => rfl
  right_inv k := rfl

/-- A running sum adds the row up to there. -/
theorem runSum_apply (w : A16) (b : Fin 16384) (f : Fin 256) (G : ℕ → EReal) (hG : ∀ j : Fin 16, w (ix3 b f j) = G j.val)
    (k : Fin 16) : runSum w (ix3 b f k) = ∑ j ∈ Finset.range (k.val + 1), G j := by
  have hi : broadcastInDim S_ ![] bcast_S_S_ (constant (F := Ideal) S_ .f32 0x00000000#32) (Shape.Idx.first h_S_) = (0 : EReal) :=
    RefNet.zero_apply _ _
  unfold runSum
  rw [at_window, hi]
  unfold Ideal.hostReduceWindowAdd Host.reduceWindow
  dsimp only
  rw [foldl_add, zero_add, ← Fin.sum_univ_def, ← window_sum G k.isLt,
    ← Equiv.sum_comp ((⟨3, ![1, 1, 16]⟩ : Shape).rowMajor), ← Equiv.sum_comp winEquiv.symm]
  refine Finset.sum_congr rfl fun i _ => ?_
  simp only [Equiv.symm_apply_apply]
  have hk := k.isLt; have hi := i.isLt
  by_cases hc : 15 ≤ k.val + i.val
  · rw [if_pos hc, dif_pos (fun a => by
      match a with
      | ⟨0, _⟩ => exact ⟨Nat.zero_le _, by show b.val * 1 + 0 - 0 < 16384; have := b.isLt; omega⟩
      | ⟨1, _⟩ => exact ⟨Nat.zero_le _, by show f.val * 1 + 0 - 0 < 256; have := f.isLt; omega⟩
      | ⟨2, _⟩ => exact ⟨by show 15 ≤ k.val * 1 + i.val; omega, by show k.val * 1 + i.val - 15 < 16; omega⟩)]
    refine Eq.trans (congrArg w (funext fun a => Fin.ext ?_)) (hG ⟨k.val + i.val - 15, by omega⟩)
    match a with
    | ⟨0, _⟩ => show b.val * 1 + 0 - 0 = b.val; omega
    | ⟨1, _⟩ => show f.val * 1 + 0 - 0 = f.val; omega
    | ⟨2, _⟩ => show k.val * 1 + i.val - 15 = k.val + i.val - 15; omega
  · rw [if_neg hc, dif_neg (fun h => hc ?_)]
    have h2 : 15 ≤ k.val * 1 + i.val := (h (2 : Fin 3)).1
    omega

/-- A row of sixteen with a number before it. -/
def joined (z : FVec Ideal S16384x256x1 .f32) (w : A16) : A17 :=
  concatenate S16384x256x17 2 [⟨S16384x256x1, z⟩, ⟨S16384x256x16, w⟩]
    concatenates_S16384x256x1_S16384x256x16_S16384x256x17_d2

theorem joined_zero (z : FVec Ideal S16384x256x1 .f32) (w : A16) (b : Fin 16384) (f : Fin 256) :
    joined z w (ix3 b f (0 : Fin 17)) = z (ix3 b f (0 : Fin 1)) := by
  unfold joined
  refine concatenate_pair_apply_left (t := S16384x256x17) (s₁ := S16384x256x1) (s₂ := S16384x256x16) 2 z w _ _ rfl _ fun a => ?_
  match a with | ⟨0, _⟩ => rfl | ⟨1, _⟩ => rfl | ⟨2, _⟩ => rfl

theorem joined_succ (z : FVec Ideal S16384x256x1 .f32) (w : A16) (b : Fin 16384) (f : Fin 256) (k : Fin 16) :
    joined z w (ix3 b f k.succ) = w (ix3 b f k) := by
  unfold joined
  refine concatenate_pair_apply_right (t := S16384x256x17) (s₁ := S16384x256x1) (s₂ := S16384x256x16) 2 z w _ _ rfl rfl _ (fun a ha => ?_) ?_
  · match a with
    | ⟨0, _⟩ => rfl
    | ⟨1, _⟩ => rfl
    | ⟨2, _⟩ => exact absurd rfl ha
  · rfl

/-- The knots: six times the running sums, less three. -/
def knots (w : A16) : A17 :=
  subf (mulf (broadcastInDim S16384x256x17 ![] bcast_S_S16384x256x17 (constant S_ .f32 0x40C00000#32))
    (joined (broadcastInDim S16384x256x1 ![] bcast_S_S16384x256x1 (constant S_ .f32 0x00000000#32)) (runSum w)))
    (broadcastInDim S16384x256x17 ![] bcast_S_S16384x256x17 (constant S_ .f32 0x40400000#32))

include hz in
/-- A knot as a real number. -/
theorem knots_apply (b : Fin 16384) (f : Fin 256) (k : Fin 17) :
    knots (shares z) (ix3 b f k) = ((knot (q b f) o k.val : ℝ) : EReal) := by
  have h : joined (broadcastInDim S16384x256x1 ![] bcast_S_S16384x256x1 (constant S_ .f32 0x00000000#32)) (runSum (shares z))
      (ix3 b f k) = ((∑ j ∈ Finset.range k.val, share (q b f) o j : ℝ) : EReal) := by
    refine Fin.cases ?_ (fun k => ?_) k
    · rw [joined_zero, RefNet.zero_apply]; simp
    · rw [joined_succ, runSum_apply (shares z) b f (fun j => ((share (q b f) o j : ℝ) : EReal))
        (fun j => shares_apply z q o hz b f j), coe_sum]
      rfl
  unfold knots
  rw [at_sub, at_mul, const_apply, const_apply, h, bits_six, bits_three, ← EReal.coe_mul, ← EReal.coe_sub, knot_share]

end Cert.Proof.RefShare

end
-- ==== Proof.RefSlope.lean ====
/- The reference's slopes as a function of an array of fifteen numbers per feature: softplus, a thousandth added, one at
   both ends. -/
module

public import proofs.«01_k».proof.Proof.RefShare

@[expose] public section

noncomputable section

namespace Cert.Proof.RefSlope

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts Cert.Proof.SplineReal Cert.Proof.RefMath Cert.Proof.RefShare
open scoped BigOperators

/-- An array of one row of fifteen per sample and feature. -/
abbrev A15 := FVec Ideal S16384x256x15 .f32

/-- The greater of two real numbers, as extended reals. -/
theorem max_coe (a b : ℝ) : ((max a b : ℝ) : EReal) = max (a : EReal) b := EReal.coe_strictMono.monotone.map_max

/-- The number whose slope is one. -/
def endVal : FVec Ideal S_ .f32 :=
  Host.log (subf (Host.exp (subf (constant S_ .f32 0x3F800000#32) minVal)) (constant S_ .f32 0x3F800000#32))

theorem endVal_apply (i : S_.Idx) : endVal i = ((Real.log (Real.exp (999 / 1000) - 1) : ℝ) : EReal) := by
  have h : (1 : ℝ) < Real.exp (999 / 1000) := by rw [Real.one_lt_exp_iff]; norm_num
  unfold endVal
  rw [at_log, at_sub, at_exp, at_sub, at_const, minVal_apply, bits_one, ← EReal.coe_sub, exp_real, ← EReal.coe_sub,
    show (1 - 1 / 1000 : ℝ) = 999 / 1000 by norm_num, log_real (by linarith)]

/-- The end number at every feature. -/
def ends : FVec Ideal S16384x256x1 .f32 := broadcastInDim S16384x256x1 ![] bcast_S_S16384x256x1 endVal

theorem ends_apply (i : S16384x256x1.Idx) : ends i = ((Real.log (Real.exp (999 / 1000) - 1) : ℝ) : EReal) := by
  unfold ends; rw [broadcastInDim_scalar_apply, endVal_apply]

/-- The fifteen numbers between the two end numbers. -/
def padded (z : A15) : A17 :=
  concatenate S16384x256x17 2 [⟨S16384x256x1, ends⟩, ⟨S16384x256x15, z⟩, ⟨S16384x256x1, ends⟩]
    concatenates_S16384x256x1_S16384x256x15_S16384x256x1_S16384x256x17_d2

theorem padded_first (z : A15) (b : Fin 16384) (f : Fin 256) :
    padded z (ix3 b f (0 : Fin 17)) = ends (ix3 b f (0 : Fin 1)) := by
  unfold padded
  refine concatenate_apply_piece (t := S16384x256x17) 2 _ _ _ 0 (by simp) S16384x256x1 ends rfl rfl 0 rfl _
    (fun a ha => ?_) rfl
  match a with | ⟨0, _⟩ => rfl | ⟨1, _⟩ => rfl | ⟨2, _⟩ => exact absurd rfl ha

theorem padded_mid (z : A15) (b : Fin 16384) (f : Fin 256) (k : Fin 15) :
    padded z (ix3 b f ⟨k.val + 1, by omega⟩) = z (ix3 b f k) := by
  unfold padded
  refine concatenate_apply_piece (t := S16384x256x17) 2 _ _ _ 1 (by simp) S16384x256x15 z rfl rfl 1 rfl _
    (fun a ha => ?_) (Nat.add_comm 1 k.val)
  match a with | ⟨0, _⟩ => rfl | ⟨1, _⟩ => rfl | ⟨2, _⟩ => exact absurd rfl ha

theorem padded_last (z : A15) (b : Fin 16384) (f : Fin 256) :
    padded z (ix3 b f (16 : Fin 17)) = ends (ix3 b f (0 : Fin 1)) := by
  unfold padded
  refine concatenate_apply_piece (t := S16384x256x17) 2 _ _ _ 2 (by simp) S16384x256x1 ends rfl rfl 16 rfl _
    (fun a ha => ?_) rfl
  match a with | ⟨0, _⟩ => rfl | ⟨1, _⟩ => rfl | ⟨2, _⟩ => exact absurd rfl ha

/-- Zero at every place of a row of seventeen. -/
def zeros : A17 := broadcastInDim S16384x256x17 ![] bcast_S_S16384x256x17 (constant S_ .f32 0x00000000#32)

/-- Softplus of each number. -/
def softplusOf (v : A17) : A17 :=
  select (cmpf .une (subf v zeros) (subf v zeros)) (addf v zeros)
    (addf (maximumf v zeros) (Host.log1p (Host.exp (Host.negf (Host.absf (subf v zeros))))))

theorem zeros_apply (i : S16384x256x17.Idx) : zeros i = ((0 : ℝ) : EReal) := by
  unfold zeros; rw [const_apply, bits_zero]

theorem softplusOf_apply (v : A17) (i : S16384x256x17.Idx) (r : ℝ) (hr : v i = (r : EReal)) :
    softplusOf v i = ((Real.log (1 + Real.exp r) : ℝ) : EReal) := by
  have hc : cmpf .une (subf v zeros) (subf v zeros) i = 0#1 := by
    show Ideal.cmp .une (subf v zeros i) (subf v zeros i) = 0#1
    simp [Ideal.cmp]
  unfold softplusOf
  rw [select_apply, hc, ValueIdx.select_zero, at_add, at_max, at_log1p, at_exp, at_neg, at_abs, at_sub, hr, zeros_apply, ← EReal.coe_sub, sub_zero,
    ← EReal.coe_neg, ← max_coe, ← max_coe, ← EReal.coe_neg, exp_real, ← EReal.coe_one, ← EReal.coe_add,
    log_real (by positivity), ← EReal.coe_add, softplus]

/-- The slopes at the seventeen knots. -/
def slopes (z : A15) : A17 :=
  addf (broadcastInDim S16384x256x17 ![] bcast_S_S16384x256x17 minVal) (softplusOf (padded z))

theorem slopes_apply (z : A15) (q : Fin 16384 → Fin 256 → ℕ → ℝ)
    (hz : ∀ b f (k : Fin 15), z (ix3 b f k) = ((q b f (32 + k.val) : ℝ) : EReal)) (b : Fin 16384) (f : Fin 256) (k : Fin 17) :
    slopes z (ix3 b f k) = ((slope (q b f) k.val : ℝ) : EReal) := by
  have hk := k.isLt
  unfold slopes
  rw [at_add, broadcastInDim_scalar_apply, minVal_apply]
  by_cases h0 : k.val = 0
  · obtain rfl : k = 0 := Fin.ext h0
    rw [softplusOf_apply _ _ _ ((padded_first z b f).trans (ends_apply _)), ← EReal.coe_add, softplus_end]
    simp [slope_zero]
  by_cases h1 : k.val = 16
  · obtain rfl : k = 16 := Fin.ext h1
    rw [softplusOf_apply _ _ _ ((padded_last z b f).trans (ends_apply _)), ← EReal.coe_add, softplus_end]
    exact congrArg _ (slope_sixteen (q b f)).symm
  · have mid : ∀ j : Fin 15, ((1 / 1000 : ℝ) : EReal) + softplusOf (padded z) (ix3 b f ⟨j.val + 1, by omega⟩)
        = ((slope (q b f) (j.val + 1) : ℝ) : EReal) := fun j => by
      rw [softplusOf_apply _ _ _ ((padded_mid z b f j).trans (hz b f j)), ← EReal.coe_add, ← slope_inner (q b f) j.isLt]
    have e := mid ⟨k.val - 1, by omega⟩
    have ek : (k.val - 1) + 1 = k.val := by omega
    simp only [ek] at e
    exact e

end Cert.Proof.RefSlope

end
-- ==== Proof.RefTake.lean ====
/- Reading one place of a row by an index per sample and feature: the reference's look-up along the last axis, whose
   index lies within the row, reads the row at that index. -/
module

public import proofs.«01_k».proof.Proof.RefShare
public import Idealize.ShloMosaic.Lib.ReduceAll

@[expose] public section

noncomputable section

namespace Cert.Proof.RefTake

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts Cert.Proof.SplineReal Cert.Proof.RefMath Cert.Proof.RefShare
open scoped BigOperators

/-- The look-up's dimension numbers. -/
abbrev dims := gather_S16384x256x16_S16384x256x1x1_S16384x256x1_n_2_01_01_2_3_111

/-- The look-up reads the row at its index, kept within the row. -/
theorem gather_row {α : Type} (x : S16384x256x16.Idx → α) (idx : IVec S16384x256x1x1 32) (b : Fin 16384) (f : Fin 256) :
    Host.gather dims x idx (ix3 b f (0 : Fin 1))
      = x (ix3 b f ⟨min (idx (ix4 b f (0 : Fin 1) (0 : Fin 1))).toInt.toNat 15, by omega⟩) := by
  unfold Host.gather
  refine congrArg x (funext fun a => Fin.ext ?_)
  show dims.start (ix3 b f (0 : Fin 1)) idx a + dims.batchCoord (ix3 b f (0 : Fin 1)) a
    + dims.offCoord (ix3 b f (0 : Fin 1)) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide),
      GatherDims.offCoord_eq_zero _ _ _ (fun h => ((GatherDims.mem_sKept _ _).mp h).2 (by decide))]
    unfold GatherDims.batchCoord
    rw [dif_pos (by decide)]
    simp only [Nat.zero_add, Nat.add_zero]
    rfl
  · rw [GatherDims.start_batching _ _ _ _ (by decide),
      GatherDims.offCoord_eq_zero _ _ _ (fun h => ((GatherDims.mem_sKept _ _).mp h).2 (by decide))]
    unfold GatherDims.batchCoord
    rw [dif_pos (by decide)]
    simp only [Nat.zero_add, Nat.add_zero]
    rfl
  · rw [GatherDims.batchCoord_eq_zero _ _ _ (by decide),
      GatherDims.offCoord_eq_zero _ _ _ (fun h => ((GatherDims.mem_sKept _ _).mp h).1 (by decide))]
    unfold GatherDims.start
    rw [dif_pos (by decide)]
    have hi : dims.siIdx (ix3 b f (0 : Fin 1)) ⟨List.idxOf (2 : Fin 3) dims.startIndexMap, by decide⟩
        = ix4 b f (0 : Fin 1) (0 : Fin 1) := by
      funext c; refine Fin.ext ?_
      match c with | ⟨0, _⟩ => rfl | ⟨1, _⟩ => rfl | ⟨2, _⟩ => rfl | ⟨3, _⟩ => rfl
    show min (idx (dims.siIdx (ix3 b f (0 : Fin 1)) ⟨List.idxOf (2 : Fin 3) dims.startIndexMap, _⟩)).toInt.toNat 15 + 0 + 0 = _
    rw [hi]
    rfl

/-- An array of one index per sample and feature. -/
abbrev I2 := IVec S16384x256 32

/-- The index, a negative one counted from the row's end. -/
def wrapped (n : I2) : IVec S16384x256x1 32 :=
  let i := broadcastInDim S16384x256x1 ![0, 1] bcast_S16384x256_S16384x256x1_0_1 n
  select (cmpi .slt i (broadcastInDim S16384x256x1 ![] bcast_S_S16384x256x1 (constantI S_ 32 0#32)))
    (addi i (broadcastInDim S16384x256x1 ![] bcast_S_S16384x256x1 (constantI S_ 32 16#32))) i

/-- The index laid out for the look-up. -/
def start (n : I2) : IVec S16384x256x1x1 32 := shapeCast _ (wrapped n) shapeCasts_S16384x256x1_S16384x256x1x1

/-- Whether the index lies within the row. -/
def inRow (n : I2) : IVec S16384x256x1x1 1 :=
  andi (cmpi .sge (start n) (broadcastInDim S16384x256x1x1 ![] bcast_S_S16384x256x1x1 (constantI S_ 32 0#32)))
    (cmpi .sle (start n) (broadcastInDim S16384x256x1x1 ![0, 1, 2, 3] bcast_S1x1x1x1_S16384x256x1x1_0_1_2_3
      (broadcastInDim S1x1x1x1 ![3] bcast_S1_S1x1x1x1_3 (constantI S1 32 15#32))))

/-- The look-up along the last axis: a row's element, or not-a-number outside. -/
def take (x : A16) (n : I2) : A2 :=
  shapeCast _ (select (Host.reduce IntOp.andi (inRow n) (constantI S_ 1 1#1) reducesTo_S16384x256x1x1_S16384x256x1_d3 h_S_)
    (Host.gather dims x (start n))
    (broadcastInDim S16384x256x1 ![] bcast_S_S16384x256x1 (constant S_ .f32 0x7FC00000#32))) shapeCasts_S16384x256x1_S16384x256

/-- A small word isn't negative. -/
theorem small {k : ℕ} (h : k ≤ 15) : IntOp.cmpi .slt (BitVec.ofNat 32 k) 0#32 = 0#1
    ∧ IntOp.cmpi .sge (BitVec.ofNat 32 k) 0#32 = 1#1 ∧ IntOp.cmpi .sle (BitVec.ofNat 32 k) 15#32 = 1#1
    ∧ min (BitVec.ofNat 32 k).toInt.toNat 15 = k := by
  interval_cases k <;> decide

variable (n : I2) (κ : Fin 16384 → Fin 256 → ℕ) (hn : ∀ b f, n (ix2 b f) = BitVec.ofNat 32 (κ b f)) (hκ : ∀ b f, κ b f ≤ 15)

include hn hκ in
theorem wrapped_apply (b : Fin 16384) (f : Fin 256) (z : Fin 1) : wrapped n (ix3 b f z) = BitVec.ofNat 32 (κ b f) := by
  unfold wrapped
  dsimp only
  have hc : cmpi .slt (broadcastInDim S16384x256x1 ![0, 1] bcast_S16384x256_S16384x256x1_0_1 n)
      (broadcastInDim S16384x256x1 ![] bcast_S_S16384x256x1 (constantI S_ 32 0#32)) (ix3 b f z) = 0#1 := by
    show IntOp.cmpi .slt (broadcastInDim S16384x256x1 ![0, 1] bcast_S16384x256_S16384x256x1_0_1 n (ix3 b f z))
      (broadcastInDim S16384x256x1 ![] bcast_S_S16384x256x1 (constantI S_ 32 0#32) (ix3 b f z)) = 0#1
    rw [unit_apply, hn, broadcastInDim_scalar_apply]
    exact (small (hκ b f)).1
  rw [select_apply, hc, ValueIdx.select_zero, unit_apply, hn]

include hn hκ in
theorem start_apply (b : Fin 16384) (f : Fin 256) (z z' : Fin 1) : start n (ix4 b f z z') = BitVec.ofNat 32 (κ b f) := by
  unfold start
  refine (shapeCast_apply _ _ _ (ix3 b f z) ?_).trans (wrapped_apply n κ hn hκ b f z)
  rw [Shape.rowMajor_val_three, Shape.rowMajor_val_four]
  have := z'.isLt
  show (b.val * 256 + f.val) * 1 + z.val = ((b.val * 256 + f.val) * 1 + z.val) * 1 + z'.val
  omega

include hn hκ in
theorem inRow_apply (i : S16384x256x1x1.Idx) : inRow n i = 1#1 := by
  obtain ⟨b, f, z, z', rfl⟩ : ∃ (b : Fin 16384) (f : Fin 256) (z z' : Fin 1), i = ix4 b f z z' :=
    ⟨i 0, i 1, i 2, i 3, funext fun a => by match a with | ⟨0, _⟩ => rfl | ⟨1, _⟩ => rfl | ⟨2, _⟩ => rfl | ⟨3, _⟩ => rfl⟩
  have h := small (hκ b f)
  have e : inRow n (ix4 b f z z') = IntOp.andi
      (IntOp.cmpi .sge (start n (ix4 b f z z'))
        (broadcastInDim S16384x256x1x1 ![] bcast_S_S16384x256x1x1 (constantI S_ 32 0#32) (ix4 b f z z')))
      (IntOp.cmpi .sle (start n (ix4 b f z z')) 15#32) := rfl
  rw [e, start_apply n κ hn hκ, broadcastInDim_scalar_apply, h.2.2.1]
  exact (congrArg (fun u => IntOp.andi u 1#1) h.2.1).trans (by decide)

include hn hκ in
/-- The look-up reads the row at the index. -/
theorem take_apply (x : A16) (b : Fin 16384) (f : Fin 256) :
    take x n (ix2 b f) = x (ix3 b f ⟨κ b f, Nat.lt_succ_of_le (hκ b f)⟩) := by
  have hm : Host.reduce IntOp.andi (inRow n) (constantI S_ 1 1#1) reducesTo_S16384x256x1x1_S16384x256x1_d3 h_S_
      (ix3 b f (0 : Fin 1)) = 1#1 := Host.reduce_andi_one _ _ _ _ _ rfl (inRow_apply n κ hn hκ)
  unfold take
  refine (shapeCast_apply _ _ _ (ix3 b f (0 : Fin 1)) ?_).trans ?_
  · rw [Shape.rowMajor_val_two, Shape.rowMajor_val_three]; show (b.val * 256 + f.val) * 1 + 0 = b.val * 256 + f.val; omega
  rw [select_apply, hm, ValueIdx.select_one, gather_row]
  refine congrArg x (congrArg (ix3 b f) (Fin.ext ?_))
  show min (start n (ix4 b f 0 0)).toInt.toNat 15 = κ b f
  rw [start_apply n κ hn hκ]
  exact (small (hκ b f)).2.2.2

end Cert.Proof.RefTake

end
-- ==== Proof.RefFinal.lean ====
/- The reference's bin look-up and its rational function, as functions of one number per sample and feature. -/
module

public import proofs.«01_k».proof.Proof.RefSlope
public import proofs.«01_k».proof.Proof.RefTake

@[expose] public section

noncomputable section

namespace Cert.Proof.RefFinal

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts Cert.Proof.SplineReal Cert.Proof.RefMath Cert.Proof.RefShare
open Cert.Proof.RefSlope Cert.Proof.RefTake Cert.Proof.ChainIdeal
open scoped BigOperators

/-- A row of seventeen without its last number. -/
def lower (v : A17) : A16 := extractStridedSlice S16384x256x16 ![0, 0, 0] v slices_S16384x256x17_S16384x256x16_0_0_0
/-- A row of seventeen without its first number. -/
def upper (v : A17) : A16 := extractStridedSlice S16384x256x16 ![0, 0, 1] v slices_S16384x256x17_S16384x256x16_0_0_1
/-- A row of seventeen without either end. -/
def inner (v : A17) : A15 := extractStridedSlice S16384x256x15 ![0, 0, 1] v slices_S16384x256x17_S16384x256x15_0_0_1

theorem lower_apply (v : A17) (b : Fin 16384) (f : Fin 256) (k : Fin 16) : lower v (ix3 b f k) = v (ix3 b f k.castSucc) := by
  unfold lower
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem upper_apply (v : A17) (b : Fin 16384) (f : Fin 256) (k : Fin 16) : upper v (ix3 b f k) = v (ix3 b f k.succ) := by
  unfold upper
  refine extractStridedSlice_apply _ _ _ _ _ fun a => ?_
  match a with
  | ⟨0, _⟩ => exact (Nat.zero_add _).symm
  | ⟨1, _⟩ => exact (Nat.zero_add _).symm
  | ⟨2, _⟩ => exact Nat.add_comm _ _

theorem inner_apply (v : A17) (b : Fin 16384) (f : Fin 256) (k : Fin 15) :
    inner v (ix3 b f k) = v (ix3 b f ⟨k.val + 1, by omega⟩) := by
  unfold inner
  refine extractStridedSlice_apply _ _ _ _ _ fun a => ?_
  match a with
  | ⟨0, _⟩ => exact (Nat.zero_add _).symm
  | ⟨1, _⟩ => exact (Nat.zero_add _).symm
  | ⟨2, _⟩ => exact Nat.add_comm _ _

/-- The inputs kept between −3 and 3. -/
def clamped (x : A2) : A2 :=
  minimumf (broadcastInDim S16384x256 ![] bcast_S_S16384x256 (constant S_ .f32 0x40400000#32))
    (maximumf (broadcastInDim S16384x256 ![] bcast_S_S16384x256 (constant S_ .f32 0xC0400000#32)) x)

theorem clamped_apply (x : A2) (i : S16384x256.Idx) : clamped x i = ((clamp (x i) : ℝ) : EReal) := by
  unfold clamped
  rw [at_min, at_max, const_apply, const_apply, bits_three, bits_neg_three, coe_clamp]

/-- How many inner knots are not above each input. -/
def count (x : A2) (v : A17) : I2 :=
  Host.reduce IntOp.addi (extui 32 (cmpf .oge (spread bcast_S16384x256x1_S16384x256x15_0_1_2 x) (inner v)) natLt_1_32)
    (constantI S_ 32 0#32) reducesTo_S16384x256x15_S16384x256_d2 h_S_

theorem redc : S16384x256x15.Reduces [2] S16384x256 := by decide

theorem lift_eq (b : Fin 16384) (f : Fin 256) (k : Fin 15) : redc.lift (ix2 b f) k = ix3 b f k := by
  funext a; refine Fin.ext ?_
  match a with | ⟨0, _⟩ => rfl | ⟨1, _⟩ => rfl | ⟨2, _⟩ => rfl

/-- The count is the bin's number. -/
theorem count_apply (x : A2) (v : A17) (b : Fin 16384) (f : Fin 256) (q : ℕ → ℝ) (t : ℝ) (hx : x (ix2 b f) = (t : EReal))
    (hv : ∀ k : Fin 17, v (ix3 b f k) = ((knot q 0 k.val : ℝ) : EReal)) :
    count x v (ix2 b f) = BitVec.ofNat 32 (binOf q t) := by
  unfold count
  rw [Host.reduce_eq_fold_single IntOp.addi _ _ _ redc h_S_]
  refine (fold_count (fun k : Fin 15 => knot q 0 (k.val + 1) ≤ t) Finset.univ
    (extui 32 (cmpf .oge (spread bcast_S16384x256x1_S16384x256x15_0_1_2 x) (inner v)) natLt_1_32 ∘ redc.lift (ix2 b f))
    fun k => ?_).trans (congrArg (BitVec.ofNat 32) (binOf_fin q t))
  · show extui 32 (cmpf .oge (spread bcast_S16384x256x1_S16384x256x15_0_1_2 x) (inner v)) natLt_1_32 (redc.lift (ix2 b f) k) = _
    rw [lift_eq, extui_apply, cmpf_apply, spread_apply, inner_apply, hx, hv]
    show (BitVec.ofBool (decide (((knot q 0 (k.val + 1) : ℝ) : EReal) ≤ (t : EReal)))).setWidth 32 = _
    by_cases h : knot q 0 (k.val + 1) ≤ t
    · rw [if_pos h, decide_eq_true (EReal.coe_le_coe_iff.mpr h)]; rfl
    · rw [if_neg h, decide_eq_false (fun h' => h (EReal.coe_le_coe_iff.mp h'))]; rfl

section Rational
variable (x cw w ch h d0 d1 : A2)

/-- A number at every sample and feature. -/
def all (c : BitVec 32) : A2 := broadcastInDim S16384x256 ![] bcast_S_S16384x256 (constant S_ .f32 c)
/-- The position within the bin. -/
def posOf : A2 := Host.divf (subf x cw) w
/-- The position times what is left of the bin. -/
def quadOf : A2 := mulf (posOf x cw w) (subf (all 0x3F800000#32) (posOf x cw w))
/-- The denominator. -/
def denOf : A2 :=
  addf (Host.divf h w) (mulf (subf (addf d0 d1) (mulf (all 0x40000000#32) (Host.divf h w))) (quadOf x cw w))
/-- The spline's value. -/
def valOf : A2 :=
  addf ch (Host.divf (mulf h (addf (mulf (mulf (Host.divf h w) (posOf x cw w)) (posOf x cw w)) (mulf d0 (quadOf x cw w))))
    (denOf x cw w h d0 d1))
/-- The spline's slope. -/
def derOf : A2 :=
  Host.divf (mulf (mulf (Host.divf h w) (Host.divf h w))
    (addf (addf (mulf (mulf d1 (posOf x cw w)) (posOf x cw w))
        (mulf (mulf (all 0x40000000#32) (Host.divf h w)) (quadOf x cw w)))
      (mulf d0 (mulf (subf (all 0x3F800000#32) (posOf x cw w)) (subf (all 0x3F800000#32) (posOf x cw w))))))
    (mulf (denOf x cw w h d0 d1) (denOf x cw w h d0 d1))

theorem all_apply (c : BitVec 32) (i : S16384x256.Idx) : all c i = Ideal.ofBits .f32 c := const_apply _ _ _

variable (q : ℕ → ℝ) (t : ℝ) (i : S16384x256.Idx) (ht : -3 ≤ t) (ht' : t ≤ 3)
  (hx : x i = (t : EReal)) (hcw : cw i = ((knot q 0 (binOf q t) : ℝ) : EReal))
  (hw : w i = ((bin q 0 (binOf q t) : ℝ) : EReal)) (hch : ch i = ((knot q 16 (binOf q t) : ℝ) : EReal))
  (hh : h i = ((bin q 16 (binOf q t) : ℝ) : EReal)) (hd0 : d0 i = ((slope q (binOf q t) : ℝ) : EReal))
  (hd1 : d1 i = ((slope q (binOf q t + 1) : ℝ) : EReal))

include hw hh in
theorem mean_apply : Host.divf h w i = ((mean q t : ℝ) : EReal) := by
  rw [at_div, hh, hw, div_real (bin_pos q 0 _).ne']; rfl

include hx hcw hw in
theorem posOf_apply : posOf x cw w i = ((pos q t : ℝ) : EReal) := by
  unfold posOf
  rw [at_div, at_sub, hx, hcw, hw, ← EReal.coe_sub, div_real (bin_pos q 0 _).ne']; rfl

include hx hcw hw in
theorem quadOf_apply : quadOf x cw w i = ((pos q t * (1 - pos q t) : ℝ) : EReal) := by
  unfold quadOf
  rw [at_mul, at_sub, posOf_apply x cw w q t i hx hcw hw, all_apply, bits_one, ← EReal.coe_sub, ← EReal.coe_mul]

include hx hcw hw hh hd0 hd1 in
theorem denOf_apply : denOf x cw w h d0 d1 i = ((den q t : ℝ) : EReal) := by
  unfold denOf
  rw [at_add, at_mul, at_sub, at_add, at_mul, mean_apply w h q t i hw hh, quadOf_apply x cw w q t i hx hcw hw, all_apply,
    bits_two, hd0, hd1, ← EReal.coe_add, ← EReal.coe_mul, ← EReal.coe_sub, ← EReal.coe_mul, ← EReal.coe_add]
  rfl

include ht ht' hx hcw hw hch hh hd0 hd1 in
/-- The reference's value is the spline's. -/
theorem valOf_apply : valOf x cw w ch h d0 d1 i = ((val q t : ℝ) : EReal) := by
  unfold valOf
  rw [at_add, at_div, at_mul, at_add, at_mul, at_mul, at_mul, mean_apply w h q t i hw hh,
    quadOf_apply x cw w q t i hx hcw hw, posOf_apply x cw w q t i hx hcw hw, denOf_apply x cw w h d0 d1 q t i hx hcw hw hh hd0 hd1,
    hch, hh, hd0]
  simp only [← EReal.coe_add, ← EReal.coe_mul]
  rw [div_real (den_pos q ht ht').ne', ← EReal.coe_add]
  refine congrArg _ ?_
  unfold val; ring

include ht ht' hx hcw hw hh hd0 hd1 in
/-- The reference's slope is the spline's. -/
theorem derOf_apply : derOf x cw w h d0 d1 i = ((der q t : ℝ) : EReal) := by
  have hp := (den_pos q ht ht').ne'
  unfold derOf
  rw [at_div, at_mul, at_mul, at_add, at_add, at_mul, at_mul, at_mul, at_mul, at_mul, at_mul, at_mul, at_sub,
    mean_apply w h q t i hw hh, quadOf_apply x cw w q t i hx hcw hw, posOf_apply x cw w q t i hx hcw hw,
    denOf_apply x cw w h d0 d1 q t i hx hcw hw hh hd0 hd1, hd0, hd1, all_apply, all_apply, bits_one, bits_two]
  simp only [← EReal.coe_add, ← EReal.coe_mul, ← EReal.coe_sub]
  rw [div_real (mul_ne_zero hp hp)]
  refine congrArg _ ?_
  unfold der
  rw [one_div_mul_one_div]
  ring

end Rational

end Cert.Proof.RefFinal

end
-- ==== Proof.RefResult.lean ====
/- The reference's stages in turn: widths, heights, knots, slopes, the bin of each input, the look-ups and the rational
   function; its two results are the network's spline and the logarithm of its slope summed over the features. -/
module

public import proofs.«01_k».proof.Proof.RefFinal

@[expose] public section

noncomputable section

namespace Cert.Proof.RefResult

open Cert.ReferenceIdeal Cert.ReferenceIdeal.Gen Cert.ReferenceIdeal.Read
open Idealize.ShloMosaic hiding ix0 ix1 ix2 ix3 ix4 ix5 eq_ix1 eq_ix2 eq_ix3
open Idealize.ShloMosaic.ValueIdx Idealize.ShloMosaic.StableHlo
open Cert.Proof.Network Cert.Proof.Consts Cert.Proof.SplineReal Cert.Proof.RefMath Cert.Proof.RefShare
open Cert.Proof.RefSlope Cert.Proof.RefTake Cert.Proof.RefFinal Cert.Proof.ChainIdeal Cert.Proof.Block
open scoped BigOperators

variable (x0 : (⟨S16384x256, .f32⟩ : BufTy).Contents (Elt Ideal)) (x1 : (⟨S16384x256, .f32⟩ : BufTy).Contents (Elt Ideal))
  (x2 : (⟨S256x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x12032, .f32⟩ : BufTy).Contents (Elt Ideal))
  (x7 : (⟨S12032, .f32⟩ : BufTy).Contents (Elt Ideal))

/-! Each stage as the function of the stages before it. -/
theorem st_v37 : val_main_v37 (F := Ideal) x0 x2 x3 x4 x5 x6 x7
    = shares (val_main_v16 (F := Ideal) x0 x2 x3 x4 x5 x6 x7) := rfl
theorem st_v56 : val_main_v56 (F := Ideal) x0 x2 x3 x4 x5 x6 x7
    = shares (val_main_v17 (F := Ideal) x0 x2 x3 x4 x5 x6 x7) := rfl
theorem st_v64 : val_main_v64 (F := Ideal) x0 x2 x3 x4 x5 x6 x7
    = knots (val_main_v37 (F := Ideal) x0 x2 x3 x4 x5 x6 x7) := rfl
theorem st_v72 : val_main_v72 (F := Ideal) x0 x2 x3 x4 x5 x6 x7
    = knots (val_main_v56 (F := Ideal) x0 x2 x3 x4 x5 x6 x7) := rfl
theorem st_v90 : val_main_v90 (F := Ideal) x0 x2 x3 x4 x5 x6 x7
    = slopes (val_main_v18 (F := Ideal) x0 x2 x3 x4 x5 x6 x7) := rfl
theorem st_v75 : val_main_v75 (F := Ideal) x0 x2 x3 x4 x5 x6 x7
    = subf (upper (val_main_v64 (F := Ideal) x0 x2 x3 x4 x5 x6 x7)) (lower (val_main_v64 (F := Ideal) x0 x2 x3 x4 x5 x6 x7)) := rfl
theorem st_v78 : val_main_v78 (F := Ideal) x0 x2 x3 x4 x5 x6 x7
    = subf (upper (val_main_v72 (F := Ideal) x0 x2 x3 x4 x5 x6 x7)) (lower (val_main_v72 (F := Ideal) x0 x2 x3 x4 x5 x6 x7)) := rfl
theorem st_v96 : val_main_v96 (F := Ideal) x1
    = clamped x1 := rfl
theorem st_v102 : val_main_v102 (F := Ideal) x0 x1 x2 x3 x4 x5 x6 x7
    = count (val_main_v96 (F := Ideal) x1) (val_main_v64 (F := Ideal) x0 x2 x3 x4 x5 x6 x7) := rfl
theorem st_v106 : val_main_v106 (F := Ideal) x0 x1 x2 x3 x4 x5 x6 x7
    = take (lower (val_main_v64 (F := Ideal) x0 x2 x3 x4 x5 x6 x7)) (val_main_v102 (F := Ideal) x0 x1 x2 x3 x4 x5 x6 x7) := rfl
theorem st_v110 : val_main_v110 (F := Ideal) x0 x1 x2 x3 x4 x5 x6 x7
    = take (lower (val_main_v72 (F := Ideal) x0 x2 x3 x4 x5 x6 x7)) (val_main_v102 (F := Ideal) x0 x1 x2 x3 x4 x5 x6 x7) := rfl
theorem st_v113 : val_main_v113 (F := Ideal) x0 x1 x2 x3 x4 x5 x6 x7
    = take (val_main_v75 (F := Ideal) x0 x2 x3 x4 x5 x6 x7) (val_main_v102 (F := Ideal) x0 x1 x2 x3 x4 x5 x6 x7) := rfl
theorem st_v116 : val_main_v116 (F := Ideal) x0 x1 x2 x3 x4 x5 x6 x7
    = take (val_main_v78 (F := Ideal) x0 x2 x3 x4 x5 x6 x7) (val_main_v102 (F := Ideal) x0 x1 x2 x3 x4 x5 x6 x7) := rfl
theorem st_v120 : val_main_v120 (F := Ideal) x0 x1 x2 x3 x4 x5 x6 x7
    = take (lower (val_main_v90 (F := Ideal) x0 x2 x3 x4 x5 x6 x7)) (val_main_v102 (F := Ideal) x0 x1 x2 x3 x4 x5 x6 x7) := rfl
theorem st_v124 : val_main_v124 (F := Ideal) x0 x1 x2 x3 x4 x5 x6 x7
    = take (upper (val_main_v90 (F := Ideal) x0 x2 x3 x4 x5 x6 x7)) (val_main_v102 (F := Ideal) x0 x1 x2 x3 x4 x5 x6 x7) := rfl
theorem st_v143 : val_main_v143 (F := Ideal) x0 x1 x2 x3 x4 x5 x6 x7
    = valOf (val_main_v96 (F := Ideal) x1) (val_main_v106 (F := Ideal) x0 x1 x2 x3 x4 x5 x6 x7) (val_main_v113 (F := Ideal) x0 x1 x2 x3 x4 x5 x6 x7) (val_main_v110 (F := Ideal) x0 x1 x2 x3 x4 x5 x6 x7) (val_main_v116 (F := Ideal) x0 x1 x2 x3 x4 x5 x6 x7) (val_main_v120 (F := Ideal) x0 x1 x2 x3 x4 x5 x6 x7) (val_main_v124 (F := Ideal) x0 x1 x2 x3 x4 x5 x6 x7) := rfl
theorem st_v158 : val_main_v158 (F := Ideal) x0 x1 x2 x3 x4 x5 x6 x7
    = derOf (val_main_v96 (F := Ideal) x1) (val_main_v106 (F := Ideal) x0 x1 x2 x3 x4 x5 x6 x7) (val_main_v113 (F := Ideal) x0 x1 x2 x3 x4 x5 x6 x7) (val_main_v116 (F := Ideal) x0 x1 x2 x3 x4 x5 x6 x7) (val_main_v120 (F := Ideal) x0 x1 x2 x3 x4 x5 x6 x7) (val_main_v124 (F := Ideal) x0 x1 x2 x3 x4 x5 x6 x7) := rfl

/-- The network's numbers as real numbers. -/
def num (b : Fin 16384) (f : Fin 256) (j : ℕ) : ℝ := (param x0 x2 x3 x4 x5 x6 x7 b f j).toReal

variable (hreal : ∀ b f, IsReal (param x0 x2 x3 x4 x5 x6 x7 b f))

/-- The number of the bin each input lies in. -/
def bins (b : Fin 16384) (f : Fin 256) : ℕ := binOf (num x0 x2 x3 x4 x5 x6 x7 b f) (clamp (x1 (ix2 b f)))

include hreal in
/-- The width knots. -/
theorem wknots (b : Fin 16384) (f : Fin 256) (k : Fin 17) :
    (val_main_v64 (F := Ideal) x0 x2 x3 x4 x5 x6 x7) (ix3 b f k) = ((knot (num x0 x2 x3 x4 x5 x6 x7 b f) 0 k.val : ℝ) : EReal) := by
  rw [st_v64, st_v37]
  refine knots_apply _ (num x0 x2 x3 x4 x5 x6 x7) 0 (fun b f k => ?_) b f k
  rw [RefNet.numbers_w, Nat.zero_add]; exact hreal b f k.val

include hreal in
/-- The height knots. -/
theorem hknots (b : Fin 16384) (f : Fin 256) (k : Fin 17) :
    (val_main_v72 (F := Ideal) x0 x2 x3 x4 x5 x6 x7) (ix3 b f k) = ((knot (num x0 x2 x3 x4 x5 x6 x7 b f) 16 k.val : ℝ) : EReal) := by
  rw [st_v72, st_v56]
  refine knots_apply _ (num x0 x2 x3 x4 x5 x6 x7) 16 (fun b f k => ?_) b f k
  rw [RefNet.numbers_h]; exact hreal b f (16 + k.val)

include hreal in
/-- The slopes at the knots. -/
theorem kslopes (b : Fin 16384) (f : Fin 256) (k : Fin 17) :
    (val_main_v90 (F := Ideal) x0 x2 x3 x4 x5 x6 x7) (ix3 b f k) = ((slope (num x0 x2 x3 x4 x5 x6 x7 b f) k.val : ℝ) : EReal) := by
  rw [st_v90]
  refine slopes_apply _ (num x0 x2 x3 x4 x5 x6 x7) (fun b f k => ?_) b f k
  rw [RefNet.numbers_s]; exact hreal b f (32 + k.val)

include hreal in
/-- The bins' widths. -/
theorem widths (b : Fin 16384) (f : Fin 256) (k : Fin 16) :
    (val_main_v75 (F := Ideal) x0 x2 x3 x4 x5 x6 x7) (ix3 b f k) = ((bin (num x0 x2 x3 x4 x5 x6 x7 b f) 0 k.val : ℝ) : EReal) := by
  rw [st_v75, at_sub, upper_apply, lower_apply, wknots x0 x2 x3 x4 x5 x6 x7 hreal, wknots x0 x2 x3 x4 x5 x6 x7 hreal, ← EReal.coe_sub]
  refine congrArg _ ?_
  show knot (num x0 x2 x3 x4 x5 x6 x7 b f) 0 (k.val + 1) - knot (num x0 x2 x3 x4 x5 x6 x7 b f) 0 k.val = _
  rw [knot_succ]; ring

include hreal in
/-- The bins' heights. -/
theorem heights (b : Fin 16384) (f : Fin 256) (k : Fin 16) :
    (val_main_v78 (F := Ideal) x0 x2 x3 x4 x5 x6 x7) (ix3 b f k) = ((bin (num x0 x2 x3 x4 x5 x6 x7 b f) 16 k.val : ℝ) : EReal) := by
  rw [st_v78, at_sub, upper_apply, lower_apply, hknots x0 x2 x3 x4 x5 x6 x7 hreal, hknots x0 x2 x3 x4 x5 x6 x7 hreal, ← EReal.coe_sub]
  refine congrArg _ ?_
  show knot (num x0 x2 x3 x4 x5 x6 x7 b f) 16 (k.val + 1) - knot (num x0 x2 x3 x4 x5 x6 x7 b f) 16 k.val = _
  rw [knot_succ]; ring

theorem inputs (i : S16384x256.Idx) : (val_main_v96 (F := Ideal) x1) i = ((clamp (x1 i) : ℝ) : EReal) := by
  rw [st_v96, clamped_apply]

include hreal in
/-- The index of each input is its bin. -/
theorem index (b : Fin 16384) (f : Fin 256) :
    (val_main_v102 (F := Ideal) x0 x1 x2 x3 x4 x5 x6 x7) (ix2 b f) = BitVec.ofNat 32 (bins x0 x1 x2 x3 x4 x5 x6 x7 b f) := by
  rw [st_v102]
  exact count_apply _ _ b f (num x0 x2 x3 x4 x5 x6 x7 b f) (clamp (x1 (ix2 b f))) (inputs x1 _) (wknots x0 x2 x3 x4 x5 x6 x7 hreal b f)

theorem bins_le (b : Fin 16384) (f : Fin 256) : bins x0 x1 x2 x3 x4 x5 x6 x7 b f ≤ 15 := binOf_le _ _

include hreal in
theorem at106 (b : Fin 16384) (f : Fin 256) :
    (val_main_v106 (F := Ideal) x0 x1 x2 x3 x4 x5 x6 x7) (ix2 b f) = ((knot (num x0 x2 x3 x4 x5 x6 x7 b f) 0 (bins x0 x1 x2 x3 x4 x5 x6 x7 b f) : ℝ) : EReal) := by
  rw [st_v106, take_apply _ (bins x0 x1 x2 x3 x4 x5 x6 x7) (index x0 x1 x2 x3 x4 x5 x6 x7 hreal) (bins_le x0 x1 x2 x3 x4 x5 x6 x7), lower_apply, wknots x0 x2 x3 x4 x5 x6 x7 hreal]
  rfl

include hreal in
theorem at110 (b : Fin 16384) (f : Fin 256) :
    (val_main_v110 (F := Ideal) x0 x1 x2 x3 x4 x5 x6 x7) (ix2 b f) = ((knot (num x0 x2 x3 x4 x5 x6 x7 b f) 16 (bins x0 x1 x2 x3 x4 x5 x6 x7 b f) : ℝ) : EReal) := by
  rw [st_v110, take_apply _ (bins x0 x1 x2 x3 x4 x5 x6 x7) (index x0 x1 x2 x3 x4 x5 x6 x7 hreal) (bins_le x0 x1 x2 x3 x4 x5 x6 x7), lower_apply, hknots x0 x2 x3 x4 x5 x6 x7 hreal]
  rfl

include hreal in
theorem at113 (b : Fin 16384) (f : Fin 256) :
    (val_main_v113 (F := Ideal) x0 x1 x2 x3 x4 x5 x6 x7) (ix2 b f) = ((bin (num x0 x2 x3 x4 x5 x6 x7 b f) 0 (bins x0 x1 x2 x3 x4 x5 x6 x7 b f) : ℝ) : EReal) := by
  rw [st_v113, take_apply _ (bins x0 x1 x2 x3 x4 x5 x6 x7) (index x0 x1 x2 x3 x4 x5 x6 x7 hreal) (bins_le x0 x1 x2 x3 x4 x5 x6 x7), widths x0 x2 x3 x4 x5 x6 x7 hreal]

include hreal in
theorem at116 (b : Fin 16384) (f : Fin 256) :
    (val_main_v116 (F := Ideal) x0 x1 x2 x3 x4 x5 x6 x7) (ix2 b f) = ((bin (num x0 x2 x3 x4 x5 x6 x7 b f) 16 (bins x0 x1 x2 x3 x4 x5 x6 x7 b f) : ℝ) : EReal) := by
  rw [st_v116, take_apply _ (bins x0 x1 x2 x3 x4 x5 x6 x7) (index x0 x1 x2 x3 x4 x5 x6 x7 hreal) (bins_le x0 x1 x2 x3 x4 x5 x6 x7), heights x0 x2 x3 x4 x5 x6 x7 hreal]

include hreal in
theorem at120 (b : Fin 16384) (f : Fin 256) :
    (val_main_v120 (F := Ideal) x0 x1 x2 x3 x4 x5 x6 x7) (ix2 b f) = ((slope (num x0 x2 x3 x4 x5 x6 x7 b f) (bins x0 x1 x2 x3 x4 x5 x6 x7 b f) : ℝ) : EReal) := by
  rw [st_v120, take_apply _ (bins x0 x1 x2 x3 x4 x5 x6 x7) (index x0 x1 x2 x3 x4 x5 x6 x7 hreal) (bins_le x0 x1 x2 x3 x4 x5 x6 x7), lower_apply, kslopes x0 x2 x3 x4 x5 x6 x7 hreal]
  rfl

include hreal in
theorem at124 (b : Fin 16384) (f : Fin 256) :
    (val_main_v124 (F := Ideal) x0 x1 x2 x3 x4 x5 x6 x7) (ix2 b f) = ((slope (num x0 x2 x3 x4 x5 x6 x7 b f) ((bins x0 x1 x2 x3 x4 x5 x6 x7 b f) + 1) : ℝ) : EReal) := by
  rw [st_v124, take_apply _ (bins x0 x1 x2 x3 x4 x5 x6 x7) (index x0 x1 x2 x3 x4 x5 x6 x7 hreal) (bins_le x0 x1 x2 x3 x4 x5 x6 x7), upper_apply, kslopes x0 x2 x3 x4 x5 x6 x7 hreal]
  rfl

include hreal in
/-- The value within the interval is the spline's. -/
theorem value (b : Fin 16384) (f : Fin 256) :
    (val_main_v143 (F := Ideal) x0 x1 x2 x3 x4 x5 x6 x7) (ix2 b f) = ((val (num x0 x2 x3 x4 x5 x6 x7 b f) (clamp (x1 (ix2 b f))) : ℝ) : EReal) := by
  rw [st_v143]
  exact valOf_apply _ _ _ _ _ _ _ (num x0 x2 x3 x4 x5 x6 x7 b f) (clamp (x1 (ix2 b f))) (ix2 b f) (clamp_ge _) (clamp_le _) (inputs x1 _)
    (at106 x0 x1 x2 x3 x4 x5 x6 x7 hreal b f) (at113 x0 x1 x2 x3 x4 x5 x6 x7 hreal b f) (at110 x0 x1 x2 x3 x4 x5 x6 x7 hreal b f) (at116 x0 x1 x2 x3 x4 x5 x6 x7 hreal b f)
    (at120 x0 x1 x2 x3 x4 x5 x6 x7 hreal b f) (at124 x0 x1 x2 x3 x4 x5 x6 x7 hreal b f)

include hreal in
/-- The slope within the interval is the spline's. -/
theorem deriv (b : Fin 16384) (f : Fin 256) :
    (val_main_v158 (F := Ideal) x0 x1 x2 x3 x4 x5 x6 x7) (ix2 b f) = ((der (num x0 x2 x3 x4 x5 x6 x7 b f) (clamp (x1 (ix2 b f))) : ℝ) : EReal) := by
  rw [st_v158]
  exact derOf_apply _ _ _ _ _ _ (num x0 x2 x3 x4 x5 x6 x7 b f) (clamp (x1 (ix2 b f))) (ix2 b f) (clamp_ge _) (clamp_le _) (inputs x1 _)
    (at106 x0 x1 x2 x3 x4 x5 x6 x7 hreal b f) (at113 x0 x1 x2 x3 x4 x5 x6 x7 hreal b f) (at116 x0 x1 x2 x3 x4 x5 x6 x7 hreal b f)
    (at120 x0 x1 x2 x3 x4 x5 x6 x7 hreal b f) (at124 x0 x1 x2 x3 x4 x5 x6 x7 hreal b f)

/-- Two truth values joined as bits. -/
theorem bit_and (a c : Prop) [Decidable a] [Decidable c] :
    IntOp.andi (BitVec.ofBool (decide a)) (BitVec.ofBool (decide c)) = BitVec.ofBool (decide (a ∧ c)) := by
  by_cases ha : a <;> by_cases hc : c <;> simp [ha, hc, IntOp.andi]

/-- Whether an input lies strictly between −3 and 3. -/
theorem inside_apply (i : S16384x256.Idx) : (val_main_v95 (F := Ideal) x1) i
    = BitVec.ofBool (decide (((-3 : ℝ) : EReal) < x1 i ∧ x1 i < ((3 : ℝ) : EReal))) := by
  have h : (val_main_v95 (F := Ideal) x1) i = IntOp.andi
      (Ideal.cmp .ogt (x1 i) ((val_main_v91 (F := Ideal)) i)) (Ideal.cmp .olt (x1 i) ((val_main_v93 (F := Ideal)) i)) := rfl
  have e1 : (val_main_v91 (F := Ideal)) i = ((-3 : ℝ) : EReal) := (const_apply _ _ _).trans bits_neg_three
  have e2 : (val_main_v93 (F := Ideal)) i = ((3 : ℝ) : EReal) := (const_apply _ _ _).trans bits_three
  rw [h, e1, e2]
  exact bit_and _ _

include hreal in
/-- The reference's first result: the spline of the network's numbers. -/
theorem result_eq : (val_main_v159 (F := Ideal) x0 x1 x2 x3 x4 x5 x6 x7) = result x0 x2 x3 x4 x5 x6 x7 x1 := by
  funext i
  obtain ⟨b, f, rfl⟩ : ∃ (b : Fin 16384) (f : Fin 256), i = ix2 b f := ⟨i 0, i 1, eq_ix2 i⟩
  rw [val_main_v159_apply, inside_apply, value x0 x1 x2 x3 x4 x5 x6 x7 hreal, select_ofBool]
  exact if_congr decide_eq_true_iff rfl rfl

include hreal in
/-- The logarithm of the slope, zero outside. -/
theorem logs (b : Fin 16384) (f : Fin 256) : (val_main_v161 (F := Ideal) x0 x1 x2 x3 x4 x5 x6 x7) (ix2 b f)
    = outLE (param x0 x2 x3 x4 x5 x6 x7 b f) (x1 (ix2 b f)) := by
  rw [val_main_v161_apply, inside_apply, select_ofBool, val_main_v160_apply, deriv x0 x1 x2 x3 x4 x5 x6 x7 hreal]
  have e : val_main_call13_v1 (F := Ideal) (ix2 b f) = ((0 : ℝ) : EReal) := (const_apply _ _ _).trans bits_zero
  rw [e]
  exact if_congr decide_eq_true_iff rfl rfl

include hreal in
/-- The reference's second result: the logarithms of the slopes summed over the features. -/
theorem logdet_eq : (val_main_v162 (F := Ideal) x0 x1 x2 x3 x4 x5 x6 x7) = logdet x0 x2 x3 x4 x5 x6 x7 x1 := by
  funext i
  obtain ⟨b, rfl⟩ : ∃ b : Fin 16384, i = ix1 b := ⟨i 0, eq_ix1 i⟩
  rw [val_main_v162_apply]
  have e : val_main_cst_28 (F := Ideal) (Shape.Idx.first h_S_) = (0 : EReal) := bits_zero.trans EReal.coe_zero
  rw [e, zero_add]
  refine Finset.sum_congr (M := EReal) rfl fun f _ => ?_
  refine Eq.trans (congrArg _ (funext fun a => ?_)) (logs x0 x1 x2 x3 x4 x5 x6 x7 hreal b f)
  match a with | ⟨0, _⟩ => rfl | ⟨1, _⟩ => rfl

end Cert.Proof.RefResult

end
-- ==== Proof.Algebraic.lean ====
/- The kernel and the reference leave the same two arrays: each leaves the network's spline of the inputs and the
   logarithms of its Jacobian determinants. -/
module

public import proofs.«01_k».proof.Defs
public import proofs.«01_k».proof.Proof.Frames
public import proofs.«01_k».proof.Proof.Finite
public import proofs.«01_k».proof.Proof.KernelRun
public import proofs.«01_k».proof.Proof.RefResult

@[expose] public section

noncomputable section

namespace Cert.Proof.Algebraic

open Idealize.ShloMosaic Idealize.SL.Sem Idealize.ShloMosaic.StableHlo
open Cert.Proof.Network Cert.Proof.HostValue Cert.Proof.Block

/-- The idealized kernel terminates, leaves its arguments as launched and every counter at zero, on a finite network. -/
theorem kernelIdeal_pre :
    Cert.quiescent_KernelIdeal_pre_finite_network (hPre_finite_network := Finite.facts) :=
  fun m ρ _ => Cert.KernelIdeal.Gen.frame m ρ

/-- The same of the reference. -/
theorem referenceIdeal_pre :
    Cert.quiescent_ReferenceIdeal_pre_finite_network (hPre_finite_network := Finite.facts) :=
  fun m ρ _ => Frames.referenceIdeal m ρ trivial

/-- On a finite network every parameter of every spline is a real number. -/
theorem real_of_pre (m : (ℓ : Loc Cert.KernelIdeal.nD Cert.KernelIdeal.τ Cert.KernelIdeal.sig) → Buf (Elt Ideal) ℓ)
    (h : Cert.Pre_KernelIdeal_finite_network (hPre_finite_network := Finite.facts) m) :
    ∀ c b f, IsReal (prm m c b f) := fun c b f => by
  haveI := Finite.facts
  obtain ⟨h0, h2, h3, h4, h5, h6, h7⟩ := Finite.fin_of_pre _ _ _ _ _ _ _ _ (h c)
  exact param_real _ _ _ _ _ _ _ h0 h2 h3 h4 h5 h6 h7 b f

/-- The reference's first result, of arrays equal to the kernel's arguments, is the network's spline of the inputs. -/
theorem ref_result {x0 x1 x2 x3 x4 x5 x6 x7 y0 y1 y2 y3 y4 y5 y6 y7} (e0 : y0 = x0) (e1 : y1 = x1) (e2 : y2 = x2)
    (e3 : y3 = x3) (e4 : y4 = x4) (e5 : y5 = x5) (e6 : y6 = x6) (e7 : y7 = x7)
    (hreal : ∀ b f, IsReal (param x0 x2 x3 x4 x5 x6 x7 b f)) :
    Cert.ReferenceIdeal.Read.val_main_v159 (F := Ideal) y0 y1 y2 y3 y4 y5 y6 y7 = result x0 x2 x3 x4 x5 x6 x7 x1 := by
  subst e0 e1 e2 e3 e4 e5 e6 e7
  exact RefResult.result_eq _ _ _ _ _ _ _ _ hreal

/-- The reference's second result, of arrays equal to the kernel's arguments, is the logarithms of the determinants. -/
theorem ref_logdet {x0 x1 x2 x3 x4 x5 x6 x7 y0 y1 y2 y3 y4 y5 y6 y7} (e0 : y0 = x0) (e1 : y1 = x1) (e2 : y2 = x2)
    (e3 : y3 = x3) (e4 : y4 = x4) (e5 : y5 = x5) (e6 : y6 = x6) (e7 : y7 = x7)
    (hreal : ∀ b f, IsReal (param x0 x2 x3 x4 x5 x6 x7 b f)) :
    Cert.ReferenceIdeal.Read.val_main_v162 (F := Ideal) y0 y1 y2 y3 y4 y5 y6 y7 = logdet x0 x2 x3 x4 x5 x6 x7 x1 := by
  subst e0 e1 e2 e3 e4 e5 e6 e7
  exact RefResult.logdet_eq _ _ _ _ _ _ _ _ hreal

/-- From arguments that agree, on a finite network, the kernel and the reference leave the same two results. -/
theorem algebraic :
    Cert.algebraic_KernelIdeal_ReferenceIdeal_pre_finite_network (hPre_finite_network := Finite.facts) :=
  fun m g m' g' hpre hagree => by
    have hreal := real_of_pre m hpre
    refine ⟨_, _, KernelRun.results m g hreal, (θ_run Cert.ReferenceIdeal.defs _ _).mono (fun r h c => ?_)
      (Cert.ReferenceIdeal.Value.run (F := Ideal) m' g')⟩
    obtain ⟨e0, e1, e2, e3, e4, e5, e6, e7⟩ := hagree c
    exact ⟨(h c).1.trans ((Cert.ReferenceIdeal.Read.val_main_v159_eq (launchContents m' c)).trans
        (ref_result e0 e1 e2 e3 e4 e5 e6 e7 (hreal c))),
      (h c).2.1.trans ((Cert.ReferenceIdeal.Read.val_main_v162_eq (launchContents m' c)).trans
        (ref_logdet e0 e1 e2 e3 e4 e5 e6 e7 (hreal c))), (h c).2.2⟩

end Cert.Proof.Algebraic

end
-- ==== Proof.lean ====
module

public import proofs.«01_k».proof.Defs
public import proofs.«01_k».proof.Proof.Frames
public import proofs.«01_k».proof.Proof.Finite
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

/-- Every claim of the certificate. -/
theorem claim : Cert.Claim :=
  ⟨Cert.Kernel.Gen.facts, Cert.KernelIdeal.Gen.facts, Cert.ReferenceIdeal.Gen.facts, Finite.facts,
    Frames.kernel, Frames.kernelIdeal, Algebraic.kernelIdeal_pre, Frames.referenceIdeal, Algebraic.referenceIdeal_pre,
    Frames.preserves, Algebraic.algebraic⟩

end Cert.Proof

end
